-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x4096x768 : Shape := ⟨3, ![1, 4096, 768]⟩
abbrev S1x4096 : Shape := ⟨2, ![1, 4096]⟩
abbrev S_ : Shape := ⟨0, ![]⟩
abbrev S768x768 : Shape := ⟨2, ![768, 768]⟩
abbrev S768 : Shape := ⟨1, ![768]⟩

class Facts : Prop where
  bcast_S_S1x4096x768 : S_.BroadcastsInDim S1x4096x768 (![] : Fin 0 → Fin S1x4096x768.rank)
  reducesTo_S1x4096x768_S_d0_1_2 : S1x4096x768.ReducesTo [0, 1, 2] S_
  h_S_ : 0 < S_.numel
  bcast_S_S1x4096 : S_.BroadcastsInDim S1x4096 (![] : Fin 0 → Fin S1x4096.rank)
  reducesTo_S1x4096_S_d0_1 : S1x4096.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg10 : FVec F S768 .f32) (main_v33 : IVec S_ 1) : IVec S_ 1 :=
  let main_v34 : FVec F S768 .f32 := Host.absf main_arg10
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  main_v38

def fn_part1 {F : FTy → Type} [FloatOps F] (main_arg7 : FVec F S768x768 .f32) (main_arg8 : FVec F S768 .f32) (main_arg9 : FVec F S768x768 .f32) (main_arg10 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg7
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg8
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x768 .f32 := Host.absf main_arg9
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg10 main_v33

def fn {F : FTy → Type} [FloatOps F] (main_arg0 : FVec F S1x4096x768 .f32) (main_arg1 : FVec F S1x4096 .f32) (main_arg2 : IVec S1x4096 1) (main_arg3 : IVec S1x4096 1) (main_arg4 : IVec S_ 1) (main_arg5 : FVec F S768x768 .f32) (main_arg6 : FVec F S768 .f32) (main_arg7 : FVec F S768x768 .f32) (main_arg8 : FVec F S768 .f32) (main_arg9 : FVec F S768x768 .f32) (main_arg10 : FVec F S768 .f32) : IVec S_ 1 :=
  let main_v0 : FVec F S1x4096x768 .f32 := Host.absf main_arg0
  let main_cst : FVec F S_ .f32 := constant S_ .f32 0x7F800000#32
  let main_v1 : FVec F S1x4096x768 .f32 := broadcastInDim S1x4096x768 ![] bcast_S_S1x4096x768 main_cst
  let main_v2 : IVec S1x4096x768 1 := cmpf .olt main_v0 main_v1
  let main_c : IVec S_ 1 := constantI S_ 1 1#1
  let main_v3 : IVec S_ 1 := (fun x v => Host.reduce IntOp.andi x v reducesTo_S1x4096x768_S_d0_1_2 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S768x768 .f32 := Host.absf main_arg5
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg6
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg7 main_arg8 main_arg9 main_arg10 main_v13 main_v16
-- ==== Kernel.lean ====
abbrev S1x4096x768 : Shape := ⟨3, ![1, 4096, 768]⟩
abbrev S1x4096 : Shape := ⟨2, ![1, 4096]⟩
abbrev S_ : Shape := ⟨0, ![]⟩
abbrev S768x768 : Shape := ⟨2, ![768, 768]⟩
abbrev S768 : Shape := ⟨1, ![768]⟩
abbrev S4096x768 : Shape := ⟨2, ![4096, 768]⟩
abbrev S2304 : Shape := ⟨1, ![2304]⟩
abbrev S1x2304 : Shape := ⟨2, ![1, 2304]⟩
abbrev S4096x2304 : Shape := ⟨2, ![4096, 2304]⟩
abbrev S512x768 : Shape := ⟨2, ![512, 768]⟩
abbrev S512x2304 : Shape := ⟨2, ![512, 2304]⟩
abbrev S1x768 : Shape := ⟨2, ![1, 768]⟩
abbrev S256x768 : Shape := ⟨2, ![256, 768]⟩
abbrev S1x256 : Shape := ⟨2, ![1, 256]⟩
abbrev S256x256 : Shape := ⟨2, ![256, 256]⟩
abbrev S256 : Shape := ⟨1, ![256]⟩
abbrev S256x1 : Shape := ⟨2, ![256, 1]⟩
abbrev S256x64 : Shape := ⟨2, ![256, 64]⟩
abbrev S768x64 : Shape := ⟨2, ![768, 64]⟩

abbrev nBuf : Space → Nat
  | .hbm => 18
  | .vmem => 32
  | .smem => 0
  | _ => 0

abbrev bufTy : (tb : Table) → Fin (tcTables nBuf tb) → BufTy
  | .hbm, ⟨0, _⟩ => ⟨S1x4096x768, .f32⟩
  | .hbm, ⟨1, _⟩ => ⟨S1x4096, .f32⟩
  | .hbm, ⟨2, _⟩ => ⟨S1x4096, .i1⟩
  | .hbm, ⟨3, _⟩ => ⟨S1x4096, .i1⟩
  | .hbm, ⟨4, _⟩ => ⟨S_, .i1⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S768, .f32⟩
  | .hbm, ⟨11, _⟩ => ⟨S4096x768, .f32⟩
  | .hbm, ⟨12, _⟩ => ⟨S2304, .f32⟩
  | .hbm, ⟨13, _⟩ => ⟨S1x2304, .f32⟩
  | .hbm, ⟨14, _⟩ => ⟨S4096x2304, .f32⟩
  | .hbm, ⟨15, _⟩ => ⟨S1x4096, .f32⟩
  | .hbm, ⟨16, _⟩ => ⟨S4096x768, .f32⟩
  | .hbm, ⟨17, _⟩ => ⟨S1x4096x768, .f32⟩
  | .local _ .vmem, ⟨0, _⟩ => ⟨S512x768, .f32⟩
  | .local _ .vmem, ⟨1, _⟩ => ⟨S512x768, .f32⟩
  | .local _ .vmem, ⟨2, _⟩ => ⟨S768x768, .f32⟩
  | .local _ .vmem, ⟨3, _⟩ => ⟨S768x768, .f32⟩
  | .local _ .vmem, ⟨4, _⟩ => ⟨S768x768, .f32⟩
  | .local _ .vmem, ⟨5, _⟩ => ⟨S1x2304, .f32⟩
  | .local _ .vmem, ⟨6, _⟩ => ⟨S512x2304, .f32⟩
  | .local _ .vmem, ⟨7, _⟩ => ⟨S512x2304, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | .local _ .vmem, ⟨18, _⟩ => ⟨S256x768, .f32⟩
  | .local _ .vmem, ⟨19, _⟩ => ⟨S256x768, .f32⟩
  | .local _ .vmem, ⟨20, _⟩ => ⟨S256x768, .f32⟩
  | .local _ .vmem, ⟨21, _⟩ => ⟨S256x768, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S256x768, .f32⟩
  | .local _ .vmem, ⟨31, _⟩ => ⟨S256x768, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc1_sem11_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![v1.toNat, c1_i32_0.toNat]

def cc1_transform_2 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_3 (i : grid1.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c1_i32_0 : BitVec 32 := 1#32
  let c0_i32 : BitVec 32 := 0#32
  ![v1.toNat, c1_i32_0.toNat]

def cc1_transform_4 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc1_transform_5 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_6 (i : grid1.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c2_i32 : BitVec 32 := 2#32
  let c0_i32 : BitVec 32 := 0#32
  ![v1.toNat, c2_i32.toNat]

def cc1_transform_7 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  ![c0_i32.toNat, v1.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x768 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S1x4096x768 : Shape := ⟨3, ![1, 4096, 768]⟩
abbrev S1x4096 : Shape := ⟨2, ![1, 4096]⟩
abbrev S_ : Shape := ⟨0, ![]⟩
abbrev S768x768 : Shape := ⟨2, ![768, 768]⟩
abbrev S768 : Shape := ⟨1, ![768]⟩
abbrev S1x1x768 : Shape := ⟨3, ![1, 1, 768]⟩
abbrev S1x4096x12x64 : Shape := ⟨4, ![1, 4096, 12, 64]⟩
abbrev S1x12x4096x64 : Shape := ⟨4, ![1, 12, 4096, 64]⟩
abbrev S1x12x4096x4096 : Shape := ⟨4, ![1, 12, 4096, 4096]⟩
abbrev S4096 : Shape := ⟨1, ![4096]⟩
abbrev S4096x1 : Shape := ⟨2, ![4096, 1]⟩
abbrev S4096x4096 : Shape := ⟨2, ![4096, 4096]⟩
abbrev S1x1x1x4096 : Shape := ⟨4, ![1, 1, 1, 4096]⟩
abbrev S1x1x4096x4096 : Shape := ⟨4, ![1, 1, 4096, 4096]⟩
abbrev S1x12x4096 : Shape := ⟨3, ![1, 12, 4096]⟩
abbrev S1x12x4096x1 : Shape := ⟨4, ![1, 12, 4096, 1]⟩
abbrev S1x1x4096x1 : Shape := ⟨4, ![1, 1, 4096, 1]⟩

abbrev nBuf : Space → Nat
  | .hbm => 79
  | .vmem => 0
  | .smem => 0
  | _ => 0

abbrev bufTy : (tb : Table) → Fin (tcTables nBuf tb) → BufTy
  | .hbm, ⟨0, _⟩ => ⟨S1x4096x768, .f32⟩
  | .hbm, ⟨1, _⟩ => ⟨S1x4096, .f32⟩
  | .hbm, ⟨2, _⟩ => ⟨S1x4096, .i1⟩
  | .hbm, ⟨3, _⟩ => ⟨S1x4096, .i1⟩
  | .hbm, ⟨4, _⟩ => ⟨S_, .i1⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S768, .f32⟩
  | .hbm, ⟨11, _⟩ => ⟨S1x4096x768, .f32⟩
  | .hbm, ⟨12, _⟩ => ⟨S1x1x768, .f32⟩
  | .hbm, ⟨13, _⟩ => ⟨S1x4096x768, .f32⟩
  | .hbm, ⟨14, _⟩ => ⟨S1x4096x768, .f32⟩
  | .hbm, ⟨15, _⟩ => ⟨S_, .f32⟩
  | .hbm, ⟨16, _⟩ => ⟨S_, .f32⟩
  | .hbm, ⟨17, _⟩ => ⟨S1x4096x768, .f32⟩
  | .hbm, ⟨18, _⟩ => ⟨S1x4096x768, .f32⟩
  | .hbm, ⟨19, _⟩ => ⟨S1x4096x768, .f32⟩
  | .hbm, ⟨20, _⟩ => ⟨S1x1x768, .f32⟩
  | .hbm, ⟨21, _⟩ => ⟨S1x4096x768, .f32⟩
  | .hbm, ⟨22, _⟩ => ⟨S1x4096x768, .f32⟩
  | .hbm, ⟨23, _⟩ => ⟨S1x4096x768, .f32⟩
  | .hbm, ⟨24, _⟩ => ⟨S1x1x768, .f32⟩
  | .hbm, ⟨25, _⟩ => ⟨S1x4096x768, .f32⟩
  | .hbm, ⟨26, _⟩ => ⟨S1x4096x768, .f32⟩
  | .hbm, ⟨27, _⟩ => ⟨S1x4096x12x64, .f32⟩
  | .hbm, ⟨28, _⟩ => ⟨S1x12x4096x64, .f32⟩
  | .hbm, ⟨29, _⟩ => ⟨S1x4096x12x64, .f32⟩
  | .hbm, ⟨30, _⟩ => ⟨S1x12x4096x64, .f32⟩
  | .hbm, ⟨31, _⟩ => ⟨S1x4096x12x64, .f32⟩
  | .hbm, ⟨32, _⟩ => ⟨S1x12x4096x64, .f32⟩
  | .hbm, ⟨33, _⟩ => ⟨S1x12x4096x4096, .f32⟩
  | .hbm, ⟨34, _⟩ => ⟨S4096, .i32⟩
  | .hbm, ⟨35, _⟩ => ⟨S1x4096, .i32⟩
  | .hbm, ⟨36, _⟩ => ⟨S4096x1, .i32⟩
  | .hbm, ⟨37, _⟩ => ⟨S4096x4096, .i32⟩
  | .hbm, ⟨38, _⟩ => ⟨S4096x4096, .i32⟩
  | .hbm, ⟨39, _⟩ => ⟨S4096x4096, .i32⟩
  | .hbm, ⟨40, _⟩ => ⟨S_, .i32⟩
  | .hbm, ⟨41, _⟩ => ⟨S4096x4096, .i32⟩
  | .hbm, ⟨42, _⟩ => ⟨S4096x4096, .i1⟩
  | .hbm, ⟨43, _⟩ => ⟨S_, .i32⟩
  | .hbm, ⟨44, _⟩ => ⟨S4096x4096, .i32⟩
  | .hbm, ⟨45, _⟩ => ⟨S4096x4096, .i1⟩
  | .hbm, ⟨46, _⟩ => ⟨S4096x4096, .i1⟩
  | .hbm, ⟨47, _⟩ => ⟨S1x1x1x4096, .f32⟩
  | .hbm, ⟨48, _⟩ => ⟨S1x12x4096x4096, .f32⟩
  | .hbm, ⟨49, _⟩ => ⟨S1x12x4096x4096, .f32⟩
  | .hbm, ⟨50, _⟩ => ⟨S1x1x4096x4096, .i1⟩
  | .hbm, ⟨51, _⟩ => ⟨S_, .f32⟩
  | .hbm, ⟨52, _⟩ => ⟨S_, .f32⟩
  | .hbm, ⟨53, _⟩ => ⟨S1x12x4096x4096, .i1⟩
  | .hbm, ⟨54, _⟩ => ⟨S1x12x4096x4096, .f32⟩
  | .hbm, ⟨55, _⟩ => ⟨S1x12x4096x4096, .f32⟩
  | .hbm, ⟨56, _⟩ => ⟨S_, .f32⟩
  | .hbm, ⟨57, _⟩ => ⟨S1x12x4096, .f32⟩
  | .hbm, ⟨58, _⟩ => ⟨S_, .f32⟩
  | .hbm, ⟨59, _⟩ => ⟨S1x12x4096, .f32⟩
  | .hbm, ⟨60, _⟩ => ⟨S1x12x4096, .f32⟩
  | .hbm, ⟨61, _⟩ => ⟨S1x12x4096x1, .f32⟩
  | .hbm, ⟨62, _⟩ => ⟨S1x12x4096x4096, .f32⟩
  | .hbm, ⟨63, _⟩ => ⟨S1x12x4096x4096, .f32⟩
  | .hbm, ⟨64, _⟩ => ⟨S1x12x4096x4096, .f32⟩
  | .hbm, ⟨65, _⟩ => ⟨S_, .f32⟩
  | .hbm, ⟨66, _⟩ => ⟨S1x12x4096, .f32⟩
  | .hbm, ⟨67, _⟩ => ⟨S1x12x4096x1, .f32⟩
  | .hbm, ⟨68, _⟩ => ⟨S1x12x4096x4096, .f32⟩
  | .hbm, ⟨69, _⟩ => ⟨S1x12x4096x4096, .f32⟩
  | .hbm, ⟨70, _⟩ => ⟨S1x1x4096x1, .i1⟩
  | .hbm, ⟨71, _⟩ => ⟨S_, .f32⟩
  | .hbm, ⟨72, _⟩ => ⟨S_, .f32⟩
  | .hbm, ⟨73, _⟩ => ⟨S1x12x4096x4096, .i1⟩
  | .hbm, ⟨74, _⟩ => ⟨S1x12x4096x4096, .f32⟩
  | .hbm, ⟨75, _⟩ => ⟨S1x12x4096x4096, .f32⟩
  | .hbm, ⟨76, _⟩ => ⟨S1x12x4096x64, .f32⟩
  | .hbm, ⟨77, _⟩ => ⟨S1x4096x12x64, .f32⟩
  | .hbm, ⟨78, _⟩ => ⟨S1x4096x768, .f32⟩
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_v28 : Ref sig .tc := ⟨.hbm, 41, rfl⟩
abbrev main_v29 : Ref sig .tc := ⟨.hbm, 42, rfl⟩
abbrev main_c_0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_1 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v37 : Ref sig .tc := ⟨.hbm, 55, rfl⟩
abbrev main_cst_2 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== Proof.KernelRun.lean ====
/- What the idealized kernel's run leaves: every buffer of the program at the contents that the five stretches
   of the program, host operations and kernel launches in turn, compute one from another. -/
module

public import proofs.«01_k».proof.Defs
public import proofs.«01_k».proof.Proof.Gen.KernelIdeal.Frame
public import Idealize.ShloMosaic.Adequacy
public import Idealize.ShloMosaic.Init

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions in a metavariable's type
set_option backward.isDefEq.respectTransparency.types false in
/-- The whole run: at the end every buffer of the program holds its contents at the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

/-- The run's result and arguments: the result buffer at its contents at the last boundary, the arguments unchanged. -/
theorem run : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨h c _ (mem_uc main_v6 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c)⟩)
    (run_all m ρ)

end Cert.KernelIdeal.Value

end
-- ==== Proof.Spec.lean ====
/- Banded attention over the reals, and its two readings: by windows of three blocks, and by a max-subtracted softmax. -/
module

public import Mathlib.Algebra.BigOperators.Field
public import Mathlib.Analysis.SpecialFunctions.Exp

@[expose] public section

noncomputable section

namespace Cert.Spec

open Finset

/-- Two positions at most 256 apart. -/
def Near (i j : Fin 4096) : Prop := i.val ≤ j.val + 256 ∧ j.val ≤ i.val + 256

instance (i j : Fin 4096) : Decidable (Near i j) := by unfold Near; infer_instance

/-- A linear projection with a bias. -/
def proj (x : Fin 4096 → Fin 768 → ℝ) (w : Fin 768 → Fin 768 → ℝ) (b : Fin 768 → ℝ) (i : Fin 4096) (j : Fin 768) : ℝ :=
  ∑ k, x i k * w k j + b j

/-- The softmax-weighted mean of `v` over the positions near `i`, at scores `σ`. -/
def attend (σ v : Fin 4096 → ℝ) (i : Fin 4096) : ℝ :=
  (∑ j, (if Near i j then Real.exp (σ j) else 0) * v j) / ∑ j, if Near i j then Real.exp (σ j) else 0

/-- The position that column `p` of a window of block `c` reads: the previous, the own and the next block, the ends repeated. -/
def keyRow (c : Fin 16) (p : Fin 768) : Fin 4096 :=
  ⟨if p.val < 256 then 256 * (c.val - 1) + p.val else if p.val < 512 then 256 * c.val + (p.val - 256) else 256 * min (c.val + 1) 15 + (p.val - 512), by
    have := c.isLt; have := p.isLt; split_ifs <;> omega⟩

/-- Row `r` of block `c`. -/
def row (c : Fin 16) (r : Fin 256) : Fin 4096 := ⟨256 * c.val + r.val, by have := c.isLt; have := r.isLt; omega⟩

/-- A sum over the seen columns of a window is the sum over the near positions. -/
theorem window_sum (c : Fin 16) (r : Fin 256) (f : Fin 4096 → ℝ) (P : Fin 768 → Prop) [DecidablePred P]
    (hP : ∀ p, P p ↔ r.val ≤ p.val ∧ p.val ≤ r.val + 512 ∧ 256 ≤ 256 * c.val + p.val ∧ 256 * c.val + p.val < 4352) :
    (∑ p : Fin 768, if P p then f (keyRow c p) else 0) = ∑ j : Fin 4096, if Near (row c r) j then f j else 0 := by
  have hc := c.isLt
  have hr := r.isLt
  have key (p : Fin 768) (h : P p) : (keyRow c p).val + 256 = 256 * c.val + p.val := by
    have := (hP p).1 h
    have := p.isLt
    simp only [keyRow]
    split_ifs <;> omega
  rw [← sum_filter, ← sum_filter]
  refine sum_bij' (fun p _ => keyRow c p) (fun j hj => ⟨j.val + 256 - 256 * c.val, ?_⟩) ?_ ?_ ?_ ?_ ?_
  · have := (mem_filter.1 hj).2
    simp only [Near, row] at this
    omega
  · intro p hp
    have h := (mem_filter.1 hp).2
    have e := key p h
    have h' := (hP p).1 h
    refine mem_filter.2 ⟨mem_univ _, ?_⟩
    simp only [Near, row]
    omega
  · intro j hj
    have := (mem_filter.1 hj).2
    have := j.isLt
    refine mem_filter.2 ⟨mem_univ _, (hP _).2 ?_⟩
    simp only [Near, row] at *
    omega
  · intro p hp
    have e := key p (mem_filter.1 hp).2
    refine Fin.ext ?_
    simp only
    omega
  · intro j hj
    have h := (mem_filter.1 hj).2
    have := j.isLt
    refine Fin.ext ?_
    simp only [Near, row] at h
    have e := key ⟨j.val + 256 - 256 * c.val, by omega⟩ ((hP _).2 (by simp only; omega))
    simp only at e ⊢
    omega
  · intro p hp
    rfl

/-- The sum of the weights is positive: a position is near itself. -/
theorem weights_pos (σ : Fin 4096 → ℝ) (i : Fin 4096) : 0 < ∑ j, if Near i j then Real.exp (σ j) else 0 := by
  refine sum_pos' (fun j _ => ?_) ⟨i, mem_univ _, ?_⟩
  · split_ifs
    · exact (Real.exp_pos _).le
    · exact le_rfl
  · rw [if_pos ⟨by omega, by omega⟩]
    exact Real.exp_pos _

/-- The mean does not change when a constant is taken off every score. -/
theorem attend_shift (σ v : Fin 4096 → ℝ) (i : Fin 4096) (μ : ℝ) : attend (fun j => σ j - μ) v i = attend σ v i := by
  have e (j : Fin 4096) : (if Near i j then Real.exp (σ j - μ) else 0) = Real.exp (-μ) * if Near i j then Real.exp (σ j) else 0 := by
    split_ifs
    · rw [← Real.exp_add]; congr 1; ring
    · ring
  unfold attend
  simp only [e, mul_assoc]
  rw [← mul_sum, ← mul_sum, mul_div_mul_left _ _ (Real.exp_pos _).ne']

/-- The mean is the sum of the values under normalised weights. -/
theorem attend_normalised (σ v : Fin 4096 → ℝ) (i : Fin 4096) :
    (∑ j, ((if Near i j then Real.exp (σ j) else 0) * (1 / ∑ j, if Near i j then Real.exp (σ j) else 0)) * v j) = attend σ v i := by
  unfold attend
  rw [sum_div]
  exact sum_congr rfl fun j _ => by ring

/-- Three rows of 768 entries, side by side. -/
def cat3 (f g h : Fin 768 → ℝ) (J : Fin 2304) : ℝ :=
  if hf : J.val < 768 then f ⟨J.val, hf⟩
  else if hg : J.val - 768 < 768 then g ⟨J.val - 768, hg⟩
  else h ⟨J.val - 768 - 768, by have := J.isLt; omega⟩

/-- A head's column. -/
def hcol (h : Fin 12) (d : Fin 64) : Fin 768 := ⟨64 * h.val + d.val, by have := h.isLt; have := d.isLt; omega⟩

/-- The score of two positions in a head: the scaled product of their queries and keys, plus the additive mask. -/
def score (q k : Fin 4096 → Fin 768 → ℝ) (a : Fin 4096 → ℝ) (h : Fin 12) (i j : Fin 4096) : ℝ :=
  (∑ e, q i (hcol h e) * k j (hcol h e)) * (1 / 8) + a j

end Cert.Spec

end
-- ==== Proof.RealSum.lean ====
/- Real numbers among the extended reals: the arithmetic of the two programs on finite values is the reals' own. -/
module

public import Idealize.ShloMosaic.PureOps.Ideal
public import Idealize.ShloMosaic.PureOps.Ideal.Laws

@[expose] public section

noncomputable section

namespace Cert.RealSum

open Idealize.ShloMosaic

/-- A finite sum of reals, read in the extended reals. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum whose terms are all real is the real sum. -/
theorem sum_eq_coe {ι : Type} (s : Finset ι) (g : ι → EReal) (f : ι → ℝ) (h : ∀ i ∈ s, g i = ((f i : ℝ) : EReal)) :
    ∑ i ∈ s, g i = ((∑ i ∈ s, f i : ℝ) : EReal) :=
  (Finset.sum_congr rfl h).trans (coe_sum s f)

/-- The quotient of two reals, the divisor not zero. -/
theorem div_coe_coe (x y : ℝ) (h : y ≠ 0) : Ideal.div (x : EReal) (y : EReal) = ((x / y : ℝ) : EReal) := by
  rw [Ideal.div_coe h, ← EReal.coe_mul, mul_one_div]

/-- The exponential of a real score plus a mask entry that is real where `p` holds and `-∞` elsewhere. -/
theorem exp_masked (p : Prop) [Decidable p] (s a : ℝ) :
    Ideal.exp ((s : EReal) + (if p then (a : EReal) else ⊥)) = ((if p then Real.exp (s + a) else 0 : ℝ) : EReal) := by
  by_cases h : p
  · rw [if_pos h, if_pos h, ← EReal.coe_add, Ideal.exp_coe]
  · rw [if_neg h, if_neg h, EReal.add_bot, Ideal.exp_bot, EReal.coe_zero]

end Cert.RealSum

end
-- ==== Proof.Projection.lean ====
/- The projection kernel: its result array holds the queries, the keys and the values side by side. -/
module

public import proofs.«01_k».proof.Proof.Spec
public import proofs.«01_k».proof.Proof.RealSum
public import proofs.«01_k».proof.Proof.Gen.KernelIdeal.Frame
public import Idealize.ShloMosaic.Lib.Pipeline.ValueKit
public import Idealize.ShloMosaic.Lib.StableHlo.ReadAt

@[expose] public section

set_option maxRecDepth 16384

noncomputable section

namespace Cert.KernelIdeal.Value

open Cert.KernelIdeal Cert.KernelIdeal.Gen
open Idealize.ShloMosaic Idealize.ShloMosaic.TcCoe
open Cert.Spec (proj cat3)
open Cert.RealSum

/-- A row of a product plus a bias, on real arrays. -/
theorem affine_value (x w : Fin 768 → ℝ) (b : ℝ) (X W : Fin 768 → EReal) (Bb : EReal) (hx : ∀ k, X k = (x k : EReal)) (hw : ∀ k, W k = (w k : EReal))
    (hb : Bb = (b : EReal)) : (∑ k, X k * W k) + Bb = ((∑ k, x k * w k + b : ℝ) : EReal) := by
  rw [sum_eq_coe _ _ (fun k => x k * w k) fun k _ => by rw [hx, hw, EReal.coe_mul], hb, EReal.coe_add]

variable (x : Fin 4096 → Fin 768 → ℝ) (wq wk wv : Fin 768 → Fin 768 → ℝ) (bq bk bv : Fin 768 → ℝ)

/-- Queries, keys and values side by side. -/
def qkv (i : Fin 4096) (J : Fin 2304) : ℝ := cat3 (proj x wq bq i) (proj x wk bk i) (proj x wv bv i) J

/-- One block of the projection kernel on real windows. -/
theorem proj_block (i : Fin 512 → Fin 4096) (x0 : Vec Ideal S512x768 .f32) (x1 x2 x3 : Vec Ideal S768x768 .f32) (x4 : Vec Ideal S1x2304 .f32)
    (h0 : ∀ r k, x0 (ix2 r k) = (x (i r) k : EReal)) (h1 : ∀ k j, x1 (ix2 k j) = (wq k j : EReal))
    (h2 : ∀ k j, x2 (ix2 k j) = (wk k j : EReal)) (h3 : ∀ k j, x3 (ix2 k j) = (wv k j : EReal))
    (h4 : ∀ J, x4 (ix2 0 J) = (cat3 bq bk bv J : EReal)) (r : Fin 512) (J : Fin 2304) :
    out0_5 x0 x1 x2 x3 x4 (ix2 r J) = (qkv x wq wk wv bq bk bv (i r) J : EReal) := by
  unfold out0_5 qkv cat3 proj
  canon_tiles z e
  all_goals
    have e0 : r = z 0 := Fin.ext e0
    subst e0
  · have e1 : J.val = 1536 + (z 1).val := e1
    have hz : (z 1).val < 768 := z1_lt
    rw [dif_neg (by omega), dif_neg (by omega)]
    pointwise [k0_pay4, k0_pay1]
    refine affine_value _ (fun k => wv k _) _ _ _ _ (fun k => h0 _ _) (fun k => ?_) ?_
    · exact (h3 k (z 1)).trans (congrArg (fun j => ((wv k j : ℝ) : EReal)) (Fin.ext (by simp only; omega)))
    · refine (h4 _).trans ?_
      unfold cat3
      simp only [← e1]
      rw [dif_neg (by omega), dif_neg (by omega)]
  · have e1 : J.val = 768 + (z 1).val := e1
    have hz : (z 1).val < 768 := z1_lt
    rw [dif_neg (by omega), dif_pos (by omega)]
    pointwise [k0_pay3, k0_pay1]
    refine affine_value _ (fun k => wk k _) _ _ _ _ (fun k => h0 _ _) (fun k => ?_) ?_
    · exact (h2 k (z 1)).trans (congrArg (fun j => ((wk k j : ℝ) : EReal)) (Fin.ext (by simp only; omega)))
    · refine (h4 _).trans ?_
      unfold cat3
      simp only [← e1]
      rw [dif_neg (by omega), dif_pos (by omega)]
  · have e1 : J.val = (z 1).val := e1
    have hz : (z 1).val < 768 := z1_lt
    rw [dif_pos (by omega)]
    pointwise [k0_pay2, k0_pay1]
    refine affine_value _ (fun k => wq k _) _ _ _ _ (fun k => h0 _ _) (fun k => ?_) ?_
    · exact (h1 k (z 1)).trans (congrArg (fun j => ((wq k j : ℝ) : EReal)) (Fin.ext (by simp only; omega)))
    · refine (h4 _).trans ?_
      unfold cat3
      simp only [← e1]
      rw [dif_pos (by omega)]

variable (m : (ℓ : Loc nD τ sig) → Buf (Elt Ideal) ℓ) (ρ : Dev nD → PrngReg) (c : Dev nD)

/-- Where the projection kernel's windows lie. -/
theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The reshaped input. -/
theorem input_at (i : Fin 4096) (k : Fin 768) :
    (W1 m ρ c (Proc.devRef .tc main_v0) : Vec Ideal S4096x768 .f32) (ix2 i k)
      = (m ((c : Thread nD τ).loc main_arg0) : Vec Ideal S1x4096x768 .f32) (ix3 0 i k) := by
  show StableHlo.after hostOps0 (W0 m ρ c) (Proc.devRef .tc main_v0) _ = _
  unfold hostOps0
  after_results
  pointwise

/-- The three biases side by side. -/
theorem bias_at (J : Fin 2304) :
    (W1 m ρ c (Proc.devRef .tc main_v2) : Vec Ideal S1x2304 .f32) (ix2 0 J)
      = if h : J.val < 768 then (m ((c : Thread nD τ).loc main_arg6) : Vec Ideal S768 .f32) (ix1 ⟨J.val, h⟩)
        else if h' : J.val - 768 < 768 then (m ((c : Thread nD τ).loc main_arg8) : Vec Ideal S768 .f32) (ix1 ⟨J.val - 768, h'⟩)
        else (m ((c : Thread nD τ).loc main_arg10) : Vec Ideal S768 .f32) (ix1 ⟨J.val - 768 - 768, by have := J.isLt; omega⟩) := by
  show StableHlo.after hostOps0 (W0 m ρ c) (Proc.devRef .tc main_v2) _ = _
  unfold hostOps0
  after_results
  pointwise
  rfl

/-- The arguments of the projection hold the real arrays. -/
structure Inputs : Prop where
  hx : ∀ i k, (m ((c : Thread nD τ).loc main_arg0) : Vec Ideal S1x4096x768 .f32) (ix3 0 i k) = (x i k : EReal)
  hwq : ∀ k j, (m ((c : Thread nD τ).loc main_arg5) : Vec Ideal S768x768 .f32) (ix2 k j) = (wq k j : EReal)
  hbq : ∀ j, (m ((c : Thread nD τ).loc main_arg6) : Vec Ideal S768 .f32) (ix1 j) = (bq j : EReal)
  hwk : ∀ k j, (m ((c : Thread nD τ).loc main_arg7) : Vec Ideal S768x768 .f32) (ix2 k j) = (wk k j : EReal)
  hbk : ∀ j, (m ((c : Thread nD τ).loc main_arg8) : Vec Ideal S768 .f32) (ix1 j) = (bk j : EReal)
  hwv : ∀ k j, (m ((c : Thread nD τ).loc main_arg9) : Vec Ideal S768x768 .f32) (ix2 k j) = (wv k j : EReal)
  hbv : ∀ j, (m ((c : Thread nD τ).loc main_arg10) : Vec Ideal S768 .f32) (ix1 j) = (bv j : EReal)

/-- After the projection kernel its result array holds the queries, the keys and the values side by side. -/
theorem projected (H : Inputs x wq wk wv bq bk bv m c) :
    W2 m ρ c (Proc.devRef .tc main_v3) = fun j : S4096x2304.Idx => (qkv x wq wk wv bq bk bv (j 0) (j 1) : EReal) := by
  refine (W2_arr m ρ c 5).trans ((dat0 (V1 m ρ) c).arrAt_eq_of_covers 5 _ (by decide +kernel) fun t hf y => ?_)
  blk_simp
  rw [after0_5]
  have ht : t.val < 8 := t.isLt
  refine Eq.trans (congrArg _ (eq_ix2 y)) ((proj_block x wq wk wv bq bk bv (fun r => ⟨512 * t.val + r.val, by have := r.isLt; omega⟩) _ _ _ _ _ ?_ ?_ ?_ ?_ ?_ (y 0) (y 1)).trans ?_)
  · intro r k
    rw [← H.hx, ← input_at m ρ]
    blk_ext [iblk0, idx0 t]
  · intro k j
    rw [← H.hwq, ← W1_args m ρ c main_arg5 (by decide)]
    blk_ext [iblk0, idx0 t]
  · intro k j
    rw [← H.hwk, ← W1_args m ρ c main_arg7 (by decide)]
    blk_ext [iblk0, idx0 t]
  · intro k j
    rw [← H.hwv, ← W1_args m ρ c main_arg9 (by decide)]
    blk_ext [iblk0, idx0 t]
  · intro J
    refine Eq.trans (b := (W1 m ρ c (Proc.devRef .tc main_v2) : Vec Ideal S1x2304 .f32) (ix2 0 J)) (by blk_ext [iblk0, idx0 t]) ?_
    rw [bias_at]
    simp only [H.hbq, H.hbk, H.hbv]
    unfold cat3
    split_ifs <;> rfl
  · refine congrArg Real.toEReal (congrArg₂ (qkv x wq wk wv bq bk bv) (Fin.ext ?_) (Fin.ext ?_))
    · blk_simp [idx0 t]
      show 512 * t.val + _ = _
      omega
    · blk_simp [idx0 t]

end Cert.KernelIdeal.Value

end
-- ==== Proof.Heads.lean ====
/- The twelve heads of the attention kernel are one computation. -/
module

public import proofs.«01_k».proof.Defs
public import proofs.«01_k».proof.Proof.Gen.KernelIdeal.Frame
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe

/-- Three blocks of 256 rows of one head, stacked. -/
def stack (a b c : FVec Ideal S256x64 .f32) : FVec Ideal S768x64 .f32 :=
  concatenate S768x64 0 [⟨S256x64, shapeCast S256x64 a shapeCasts_S256x64_S256x64⟩, ⟨S256x64, shapeCast S256x64 b shapeCasts_S256x64_S256x64⟩,
    ⟨S256x64, shapeCast S256x64 c shapeCasts_S256x64_S256x64⟩] concatenates_S256x64_S256x64_S256x64_S768x64_d0

/-- The unnormalised weights of one head: the exponential of the scaled scores plus the additive mask. -/
def weights (M : FVec Ideal S256x768 .f32) (q : FVec Ideal S256x64 .f32) (k : FVec Ideal S768x64 .f32) : FVec Ideal S256x768 .f32 :=
  exp (addf (mulf (matmul dot_S256x64_S768x64_S256x768_1_1_0_0_n_n none (shapeCast S256x64 q shapeCasts_S256x64_S256x64) k (constant S256x768 .f32 0x00000000#32))
    (broadcast S256x768 (Scalar.ofBits .f32 0x3E000000#32))) M)

/-- One head of the output: the weighted sum of the values over the sum of the weights. -/
def head (M : FVec Ideal S256x768 .f32) (q : FVec Ideal S256x64 .f32) (k v : FVec Ideal S768x64 .f32) : FVec Ideal S256x64 .f32 :=
  divf (matmul dot_S256x768_S768x64_S256x64_1_0_0_1_n_n none (weights M q k) v (constant S256x64 .f32 0x00000000#32))
    (broadcastTo S256x64 (shapeCast S256x1 (multiReduction .add [1] S256 (weights M q k) 0x00000000#32 reduces_S256x768_S256 (.inl rfl) rfl)
      shapeCasts_S256_S256x1) broadcasts_S256x1_S256x64)

variable (M : FVec Ideal S256x768 .f32) (q k0 k1 k2 v0 v1 v2 : Vec Ideal S256x64 .f32)

/-- The first head's stored value is `head` of its windows. -/
theorem head0 : k1_pay11 M (k1_pay9 q) (k1_pay10 k0) k1 k2 v0 v1 v2 = head M q (stack k0 k1 k2) (stack v0 v1 v2) := rfl
/-- The second head's stored value is `head` of its windows. -/
theorem head1 : k1_pay15 M (k1_pay12 q) (k1_pay13 k0 k1 k2) (k1_pay14 v0) v1 v2 = head M q (stack k0 k1 k2) (stack v0 v1 v2) := rfl
/-- The third head's stored value is `head` of its windows. -/
theorem head2 : k1_pay19 (k1_pay16 v0 v1 v2) (k1_pay17 M q k0 k1 k2) (k1_pay18 M q k0 k1 k2) = head M q (stack k0 k1 k2) (stack v0 v1 v2) := rfl
/-- The fourth head's stored value is `head` of its windows. -/
theorem head3 : k1_pay20 M q k0 k1 k2 v0 v1 v2 = head M q (stack k0 k1 k2) (stack v0 v1 v2) := rfl
/-- The fifth head's stored value is `head` of its windows. -/
theorem head4 : k1_pay24 M (k1_pay21 q) (k1_pay22 k0) (k1_pay23 k1) k2 v0 v1 v2 = head M q (stack k0 k1 k2) (stack v0 v1 v2) := rfl
/-- The sixth head's stored value is `head` of its windows. -/
theorem head5 : k1_pay29 M (k1_pay25 q) (k1_pay26 k0 k1 k2) (k1_pay27 v0) (k1_pay28 v1) v2 = head M q (stack k0 k1 k2) (stack v0 v1 v2) := rfl
/-- The seventh head's stored value is `head` of its windows. -/
theorem head6 : k1_pay30 M q k0 k1 k2 v0 v1 v2 = head M q (stack k0 k1 k2) (stack v0 v1 v2) := rfl
/-- The eighth head's stored value is `head` of its windows. -/
theorem head7 : k1_pay31 M q k0 k1 k2 v0 v1 v2 = head M q (stack k0 k1 k2) (stack v0 v1 v2) := rfl
/-- The ninth head's stored value is `head` of its windows. -/
theorem head8 : k1_pay36 M (k1_pay32 q) (k1_pay33 k0) (k1_pay34 k1) (k1_pay35 k2) v0 v1 v2 = head M q (stack k0 k1 k2) (stack v0 v1 v2) := rfl
/-- The tenth head's stored value is `head` of its windows. -/
theorem head9 : k1_pay39 M (k1_pay37 v0 v1 v2) (k1_pay38 q k0 k1 k2) = head M q (stack k0 k1 k2) (stack v0 v1 v2) := rfl
/-- The eleventh head's stored value is `head` of its windows. -/
theorem head10 : k1_pay40 M q k0 k1 k2 v0 v1 v2 = head M q (stack k0 k1 k2) (stack v0 v1 v2) := rfl

/-- The twelfth head's stored value is `head` of its windows. -/
theorem head11 : divf (k1_pay2 v0 v1 v2 (k1_pay1 M (k1_pay41 q) k0 k1 k2))
    (broadcastTo S256x64 (shapeCast S256x1 (multiReduction .add [1] S256 (k1_pay1 M (k1_pay41 q) k0 k1 k2) 0x00000000#32 reduces_S256x768_S256 (.inl rfl) rfl)
      shapeCasts_S256_S256x1) broadcasts_S256x1_S256x64) = head M q (stack k0 k1 k2) (stack v0 v1 v2) := rfl

end Cert.KernelIdeal.Value

end
-- ==== Proof.Body.lean ====
/- One block of the attention kernel, entry by entry. -/
module

public import proofs.«01_k».proof.Proof.Heads
public import proofs.«01_k».proof.Proof.Spec
public import Idealize.ShloMosaic.Lib.Tactic.WordOmega

@[expose] public section

set_option maxRecDepth 16384

noncomputable section

namespace Cert.KernelIdeal.Value

open Cert.KernelIdeal Cert.KernelIdeal.Gen
open Idealize.ShloMosaic Idealize.ShloMosaic.TcCoe
open Cert.Spec (hcol)

/-- Column `p` of a window lies in the band of row `r` and inside the sequence, at block `c`. -/
def Seen (c r p : ℕ) : Prop := r ≤ p ∧ p ≤ r + 512 ∧ 256 ≤ 256 * c + p ∧ 256 * c + p < 4352

instance (c r p : ℕ) : Decidable (Seen c r p) := by unfold Seen; infer_instance

/-- The kernel's validity word of the previous block. -/
theorem seen_prev (c p r : ℕ) (hc : c < 16) (hp : p < 256) (hr : r < 256) :
    (IntOp.andi (IntOp.andi (IntOp.andi
        (IntOp.cmpi CmpIPredicate.sge (IntOp.subi (IntOp.addi (4294967040#32) (BitVec.ofNat 32 p)) (BitVec.ofNat 32 r)) 4294967040#32)
        (IntOp.cmpi CmpIPredicate.sle (IntOp.subi (IntOp.addi (4294967040#32) (BitVec.ofNat 32 p)) (BitVec.ofNat 32 r)) 256#32))
      (Scalar.cmpi CmpIPredicate.sge (Scalar.subi (Scalar.addi (BitVec.ofNat 32 c) 0#32) 1#32) 0#32))
      (Scalar.cmpi CmpIPredicate.slt (Scalar.subi (Scalar.addi (BitVec.ofNat 32 c) 0#32) 1#32) 16#32)) = 1#1 ↔ Seen c r p := by
  simp only [Scalar.cmpi, Scalar.subi, Scalar.addi, IntOp.subi, IntOp.addi, Seen]
  word_omega

/-- The kernel's validity word of the block itself. -/
theorem seen_here (c p r : ℕ) (hc : c < 16) (hp : p < 256) (hr : r < 256) :
    (IntOp.andi (IntOp.andi (IntOp.andi
        (IntOp.cmpi CmpIPredicate.sge (IntOp.subi (IntOp.addi (0#32) (BitVec.ofNat 32 p)) (BitVec.ofNat 32 r)) 4294967040#32)
        (IntOp.cmpi CmpIPredicate.sle (IntOp.subi (IntOp.addi (0#32) (BitVec.ofNat 32 p)) (BitVec.ofNat 32 r)) 256#32))
      (Scalar.cmpi CmpIPredicate.sge (Scalar.subi (Scalar.addi (BitVec.ofNat 32 c) 1#32) 1#32) 0#32))
      (Scalar.cmpi CmpIPredicate.slt (Scalar.subi (Scalar.addi (BitVec.ofNat 32 c) 1#32) 1#32) 16#32)) = 1#1 ↔ Seen c r (p + 256) := by
  simp only [Scalar.cmpi, Scalar.subi, Scalar.addi, IntOp.subi, IntOp.addi, Seen]
  word_omega

/-- The kernel's validity word of the next block. -/
theorem seen_next (c p r : ℕ) (hc : c < 16) (hp : p < 256) (hr : r < 256) :
    (IntOp.andi (IntOp.andi (IntOp.andi
        (IntOp.cmpi CmpIPredicate.sge (IntOp.subi (IntOp.addi (256#32) (BitVec.ofNat 32 p)) (BitVec.ofNat 32 r)) 4294967040#32)
        (IntOp.cmpi CmpIPredicate.sle (IntOp.subi (IntOp.addi (256#32) (BitVec.ofNat 32 p)) (BitVec.ofNat 32 r)) 256#32))
      (Scalar.cmpi CmpIPredicate.sge (Scalar.subi (Scalar.addi (BitVec.ofNat 32 c) 2#32) 1#32) 0#32))
      (Scalar.cmpi CmpIPredicate.slt (Scalar.subi (Scalar.addi (BitVec.ofNat 32 c) 2#32) 1#32) 16#32)) = 1#1 ↔ Seen c r (p + 512) := by
  simp only [Scalar.cmpi, Scalar.subi, Scalar.addi, IntOp.subi, IntOp.addi, Seen]
  word_omega

/-- Three blocks of 256 columns of the additive mask, side by side. -/
def stackRow (a b c : Vec Ideal S1x256 .f32) (p : Fin 768) : Ideal .f32 :=
  if h : p.val < 256 then a (ix2 0 ⟨p.val, h⟩)
  else if h' : p.val - 256 < 256 then b (ix2 0 ⟨p.val - 256, h'⟩)
  else c (ix2 0 ⟨p.val - 256 - 256, by have := p.isLt; omega⟩)

/-- The additive mask of a block: the caller's mask where the column is seen, minus infinity elsewhere. -/
theorem mask_at (i : grid1.Coords) (x0 x1 x2 x3 x4 x5 x6 : Vec Ideal S256x768 .f32) (x7 x8 x9 x10 : Vec Ideal S1x256 .f32)
    (r : Fin 256) (p : Fin 768) :
    k1_pay42 i x0 x1 x2 x3 x4 x5 x6 x7 x8 x9 x10 (ix2 r p) = if Seen (i 0).val r.val p.val then stackRow x7 x8 x9 p else ⊥ := by
  have hc : (i 0).val < 16 := (i 0).isLt
  have hp := p.isLt
  have hr := r.isLt
  have hn : (Named.named κ "mask" 3463342888#32 : Ideal .f32) = ⊥ := IdealRules.named_const.ideal_named_scalar _ _ _ _ rfl
  pointwise [k1_pay42, k1_pay7, k1_pay6, k1_pay5, k1_pay4]
  rw [hn]
  unfold stackRow Scalar.select
  by_cases h : p.val < 256
  · simp only [h, dif_pos, if_true]
    exact if_congr (seen_prev _ _ _ hc h hr) rfl rfl
  · by_cases h' : p.val - 256 < 256
    · simp only [h, h', dif_pos, dif_neg, not_false_eq_true, if_true, if_false]
      have e := seen_here _ _ _ hc h' hr
      rw [show p.val - 256 + 256 = p.val by omega] at e
      exact if_congr e rfl rfl
    · simp only [h, h', dif_neg, not_false_eq_true, if_false]
      have e := seen_next (i 0).val (p.val - 256 - 256) _ hc (by omega) hr
      rw [show p.val - 256 - 256 + 512 = p.val by omega] at e
      exact if_congr e rfl rfl

/-- The columns of one head. -/
def cols (h : Fin 12) (x : Vec Ideal S256x768 .f32) : FVec Ideal S256x64 .f32 := fun j => x (ix2 (j 0) (hcol h (j 1)))

/-- The loads of one head's columns. -/
theorem ld_cols (x : Vec Ideal S256x768 .f32) :
    View.ld x r1_1 = cols 0 x ∧ View.ld x r1_2 = cols 1 x ∧ View.ld x r1_3 = cols 2 x ∧ View.ld x r1_4 = cols 3 x ∧
    View.ld x r1_5 = cols 4 x ∧ View.ld x r1_6 = cols 5 x ∧ View.ld x r1_7 = cols 6 x ∧ View.ld x r1_8 = cols 7 x ∧
    View.ld x r1_9 = cols 8 x ∧ View.ld x r1_10 = cols 9 x ∧ View.ld x r1_11 = cols 10 x ∧ View.ld x r1_12 = cols 11 x := by
  refine ⟨?_, ?_, ?_, ?_, ?_, ?_, ?_, ?_, ?_, ?_, ?_, ?_⟩ <;>
  · funext j
    refine congrArg x (funext fun d => ?_)
    match d with
    | ⟨0, _⟩ => exact Fin.ext (by simp [Rect.unit, ix2])
    | ⟨1, _⟩ => exact Fin.ext (by simp [Rect.unit, ix2, hcol])

set_option maxHeartbeats 1000000 in
/-- Twelve heads side by side, each row scaled: at a head's column, that head's entry times the row's factor. -/
theorem join_at (H : Fin 12 → FVec Ideal S256x64 .f32) (nm : FVec Ideal S256x1 .f32) (r : Fin 256) (h : Fin 12) (d : Fin 64) :
    mulf (concatenate S256x768 1 [⟨S256x64, H 0⟩, ⟨S256x64, H 1⟩, ⟨S256x64, H 2⟩, ⟨S256x64, H 3⟩, ⟨S256x64, H 4⟩, ⟨S256x64, H 5⟩, ⟨S256x64, H 6⟩,
        ⟨S256x64, H 7⟩, ⟨S256x64, H 8⟩, ⟨S256x64, H 9⟩, ⟨S256x64, H 10⟩, ⟨S256x64, H 11⟩]
        concatenates_S256x64_S256x64_S256x64_S256x64_S256x64_S256x64_S256x64_S256x64_S256x64_S256x64_S256x64_S256x64_S256x768_d1)
      (broadcastTo S256x768 nm broadcasts_S256x1_S256x768) (ix2 r (hcol h d)) = H h (ix2 r d) * nm (ix2 r 0) := by
  have aux (k : Fin 12) (x : ℕ) (hx : x < 64) (e : 64 * k.val + x = (hcol h d).val) : H k (ix2 r ⟨x, hx⟩) = H h (ix2 r d) := by
    have e' : 64 * k.val + x = 64 * h.val + d.val := e
    have hd := d.isLt
    obtain rfl : k = h := Fin.ext (by omega)
    obtain rfl : (⟨x, hx⟩ : Fin 64) = d := Fin.ext (show x = d.val by omega)
    rfl
  have hlt := (hcol h d).isLt
  pointwise
  congr 1
  by_cases h0 : (hcol h d).val < 64
  · rw [dif_pos h0]
    exact aux 0 _ h0 (show 64 * 0 + _ = _ by omega)
  rw [dif_neg h0]
  by_cases h1 : (hcol h d).val - 64 < 64
  · rw [dif_pos h1]
    exact aux 1 _ h1 (show 64 * 1 + _ = _ by omega)
  rw [dif_neg h1]
  by_cases h2 : (hcol h d).val - 64 - 64 < 64
  · rw [dif_pos h2]
    exact aux 2 _ h2 (show 64 * 2 + _ = _ by omega)
  rw [dif_neg h2]
  by_cases h3 : (hcol h d).val - 64 - 64 - 64 < 64
  · rw [dif_pos h3]
    exact aux 3 _ h3 (show 64 * 3 + _ = _ by omega)
  rw [dif_neg h3]
  by_cases h4 : (hcol h d).val - 64 - 64 - 64 - 64 < 64
  · rw [dif_pos h4]
    exact aux 4 _ h4 (show 64 * 4 + _ = _ by omega)
  rw [dif_neg h4]
  by_cases h5 : (hcol h d).val - 64 - 64 - 64 - 64 - 64 < 64
  · rw [dif_pos h5]
    exact aux 5 _ h5 (show 64 * 5 + _ = _ by omega)
  rw [dif_neg h5]
  by_cases h6 : (hcol h d).val - 64 - 64 - 64 - 64 - 64 - 64 < 64
  · rw [dif_pos h6]
    exact aux 6 _ h6 (show 64 * 6 + _ = _ by omega)
  rw [dif_neg h6]
  by_cases h7 : (hcol h d).val - 64 - 64 - 64 - 64 - 64 - 64 - 64 < 64
  · rw [dif_pos h7]
    exact aux 7 _ h7 (show 64 * 7 + _ = _ by omega)
  rw [dif_neg h7]
  by_cases h8 : (hcol h d).val - 64 - 64 - 64 - 64 - 64 - 64 - 64 - 64 < 64
  · rw [dif_pos h8]
    exact aux 8 _ h8 (show 64 * 8 + _ = _ by omega)
  rw [dif_neg h8]
  by_cases h9 : (hcol h d).val - 64 - 64 - 64 - 64 - 64 - 64 - 64 - 64 - 64 < 64
  · rw [dif_pos h9]
    exact aux 9 _ h9 (show 64 * 9 + _ = _ by omega)
  rw [dif_neg h9]
  by_cases h10 : (hcol h d).val - 64 - 64 - 64 - 64 - 64 - 64 - 64 - 64 - 64 - 64 < 64
  · rw [dif_pos h10]
    exact aux 10 _ h10 (show 64 * 10 + _ = _ by omega)
  rw [dif_neg h10]
  exact aux 11 _ _ (show 64 * 11 + _ = _ by omega)

/-- The block that the attention kernel stores, at a head's column: that head's entry, times one minus the query mask. -/
theorem out_at (i : grid1.Coords) (x0 x1 x2 x3 x4 x5 x6 : Vec Ideal S256x768 .f32) (x7 x8 x9 x10 : Vec Ideal S1x256 .f32)
    (r : Fin 256) (h : Fin 12) (d : Fin 64) :
    out1_11 i x0 x1 x2 x3 x4 x5 x6 x7 x8 x9 x10 (ix2 r (hcol h d))
      = head (k1_pay42 i x0 x1 x2 x3 x4 x5 x6 x7 x8 x9 x10) (cols h x0) (stack (cols h x1) (cols h x2) (cols h x3))
          (stack (cols h x4) (cols h x5) (cols h x6)) (ix2 r d) * (1 - x10 (ix2 0 r)) := by
  have hn : k1_pay8 x10 (ix2 r 0) = 1 - x10 (ix2 0 r) := by pointwise [k1_pay8]
  unfold out1_11
  frame_out
  rw [head0, head1, head2, head3, head4, head5, head6, head7, head8, head9, head10]
  unfold k1_pay43
  obtain ⟨a0, a1, a2, a3, a4, a5, a6, a7, a8, a9, a10, a11⟩ := ld_cols x0
  obtain ⟨b0, b1, b2, b3, b4, b5, b6, b7, b8, b9, b10, b11⟩ := ld_cols x1
  obtain ⟨c0, c1, c2, c3, c4, c5, c6, c7, c8, c9, c10, c11⟩ := ld_cols x2
  obtain ⟨d0, d1, d2, d3, d4, d5, d6, d7, d8, d9, d10, d11⟩ := ld_cols x3
  obtain ⟨e0, e1, e2, e3, e4, e5, e6, e7, e8, e9, e10, e11⟩ := ld_cols x4
  obtain ⟨f0, f1, f2, f3, f4, f5, f6, f7, f8, f9, f10, f11⟩ := ld_cols x5
  obtain ⟨g0, g1, g2, g3, g4, g5, g6, g7, g8, g9, g10, g11⟩ := ld_cols x6
  rw [a0, a1, a2, a3, a4, a5, a6, a7, a8, a9, a10, a11, b0, b1, b2, b3, b4, b5, b6, b7, b8, b9, b10, b11,
    c0, c1, c2, c3, c4, c5, c6, c7, c8, c9, c10, c11, d0, d1, d2, d3, d4, d5, d6, d7, d8, d9, d10, d11,
    e0, e1, e2, e3, e4, e5, e6, e7, e8, e9, e10, e11, f0, f1, f2, f3, f4, f5, f6, f7, f8, f9, f10, f11,
    g0, g1, g2, g3, g4, g5, g6, g7, g8, g9, g10, g11]
  rw [← hn]
  exact join_at (fun h => head (k1_pay42 i x0 x1 x2 x3 x4 x5 x6 x7 x8 x9 x10) (cols h x0) (stack (cols h x1) (cols h x2) (cols h x3))
          (stack (cols h x4) (cols h x5) (cols h x6))) (k1_pay8 x10) r h d

/-- Three stacked blocks of one head's columns, entry by entry. -/
theorem stack_at (h : Fin 12) (a b c : Vec Ideal S256x768 .f32) (p : Fin 768) (e : Fin 64) :
    stack (cols h a) (cols h b) (cols h c) (ix2 p e)
      = if h' : p.val < 256 then a (ix2 ⟨p.val, h'⟩ (hcol h e))
        else if h'' : p.val - 256 < 256 then b (ix2 ⟨p.val - 256, h''⟩ (hcol h e))
        else c (ix2 ⟨p.val - 256 - 256, by have := p.isLt; omega⟩ (hcol h e)) := by
  pointwise [stack]
  rfl

/-- The weight of a column in a row. -/
theorem weights_at (M : FVec Ideal S256x768 .f32) (q : FVec Ideal S256x64 .f32) (k : FVec Ideal S768x64 .f32) (r : Fin 256) (p : Fin 768) :
    weights M q k (ix2 r p)
      = Ideal.exp ((∑ e : Fin 64, q (ix2 r e) * k (ix2 p e)) * Ideal.ofBits FTy.f32 0x3E000000#32 + M (ix2 r p)) := by
  pointwise [weights]

/-- One entry of a head. -/
theorem head_at (M : FVec Ideal S256x768 .f32) (q : FVec Ideal S256x64 .f32) (k v : FVec Ideal S768x64 .f32) (r : Fin 256) (d : Fin 64) :
    head M q k v (ix2 r d)
      = Ideal.div (∑ p : Fin 768, weights M q k (ix2 r p) * v (ix2 p d)) (∑ p : Fin 768, weights M q k (ix2 r p)) := by
  pointwise [head]

end Cert.KernelIdeal.Value

end
-- ==== Proof.Consts.lean ====
/- The float constants of the two programs, as extended reals. -/
module

public import proofs.«01_k».proof.Defs
public import Idealize.ShloMosaic.Lib.Pipeline.ValueKit

@[expose] public section

namespace Cert.Consts

open Idealize.ShloMosaic

/-- The scale of the scores is one eighth. -/
theorem eighth : Ideal.ofBits FTy.f32 0x3E000000#32 = ((1 / 8 : ℝ) : EReal) := by
  simp [Ideal.ofBits, Ideal.ieee, -EReal.coe_mul]; norm_num

/-- The head width is sixty-four. -/
theorem sixtyFour : Ideal.ofBits FTy.f32 0x42800000#32 = ((64 : ℝ) : EReal) := by
  simp [Ideal.ofBits, Ideal.ieee, -EReal.coe_mul]; norm_num

/-- The filler of the scores outside the band is minus infinity. -/
theorem minusInf : Ideal.ofBits FTy.f32 0xFF800000#32 = ⊥ := by
  simp [Ideal.ofBits, Ideal.ieee]

/-- The bound of the precondition is plus infinity. -/
theorem plusInf : Ideal.ofBits FTy.f32 0x7F800000#32 = ⊤ := by
  simp [Ideal.ofBits, Ideal.ieee]

end Cert.Consts
-- ==== Proof.BodyValue.lean ====
/- One block of the attention kernel on real arrays: banded attention of the block's rows. -/
module

public import proofs.«01_k».proof.Proof.Body
public import proofs.«01_k».proof.Proof.Consts
public import proofs.«01_k».proof.Proof.RealSum

@[expose] public section

set_option maxRecDepth 16384

noncomputable section

namespace Cert.KernelIdeal.Value

open Cert.KernelIdeal Cert.KernelIdeal.Gen
open Idealize.ShloMosaic Idealize.ShloMosaic.TcCoe
open Cert.Spec (hcol row keyRow Near attend score)
open Cert.RealSum

/-- The block before block `c`, the first repeated. -/
def prev (c : Fin 16) : Fin 16 := ⟨c.val - 1, by have := c.isLt; omega⟩

/-- The block after block `c`, the last repeated. -/
def next (c : Fin 16) : Fin 16 := ⟨min (c.val + 1) 15, by omega⟩

/-- A three-block window read block by block is the array read at the window's positions. -/
theorem window_read {α : Type} (f : Fin 4096 → α) (c : Fin 16) (p : Fin 768) :
    (if h : p.val < 256 then f (row (prev c) ⟨p.val, h⟩)
      else if h' : p.val - 256 < 256 then f (row c ⟨p.val - 256, h'⟩)
      else f (row (next c) ⟨p.val - 256 - 256, by have := p.isLt; omega⟩)) = f (keyRow c p) := by
  split_ifs with h h'
  · exact congrArg f (Fin.ext (by simp only [row, prev, keyRow]; rw [if_pos h]))
  · exact congrArg f (Fin.ext (by simp only [row, keyRow]; rw [if_neg h, if_pos (by omega)]))
  · exact congrArg f (Fin.ext (by simp only [row, next, keyRow]; rw [if_neg h, if_neg (by omega)]; omega))

variable (c : Fin 16) (q k v : Fin 4096 → Fin 768 → ℝ) (a : Fin 4096 → ℝ)

/-- Three stacked blocks of a real array, one head's columns. -/
theorem stack_value (h : Fin 12) (x y z : Vec Ideal S256x768 .f32)
    (hx : ∀ r j, x (ix2 r j) = (k (row (prev c) r) j : EReal)) (hy : ∀ r j, y (ix2 r j) = (k (row c r) j : EReal))
    (hz : ∀ r j, z (ix2 r j) = (k (row (next c) r) j : EReal)) (p : Fin 768) (e : Fin 64) :
    stack (cols h x) (cols h y) (cols h z) (ix2 p e) = (k (keyRow c p) (hcol h e) : EReal) := by
  rw [stack_at]
  simp only [hx, hy, hz]
  exact window_read (fun j => ((k j (hcol h e) : ℝ) : EReal)) c p

/-- Three blocks of a real additive mask, side by side. -/
theorem stackRow_value (x y z : Vec Ideal S1x256 .f32)
    (hx : ∀ r, x (ix2 0 r) = (a (row (prev c) r) : EReal)) (hy : ∀ r, y (ix2 0 r) = (a (row c r) : EReal))
    (hz : ∀ r, z (ix2 0 r) = (a (row (next c) r) : EReal)) (p : Fin 768) :
    stackRow x y z p = (a (keyRow c p) : EReal) := by
  unfold stackRow
  simp only [hx, hy, hz]
  exact window_read (fun j => ((a j : ℝ) : EReal)) c p

/-- A head on real queries, keys, values and mask is the weighted mean over the seen positions. -/
theorem head_value (h : Fin 12) (M : FVec Ideal S256x768 .f32) (Q : FVec Ideal S256x64 .f32) (K V : FVec Ideal S768x64 .f32)
    (hM : ∀ r p, M (ix2 r p) = if Seen c.val r.val p.val then (a (keyRow c p) : EReal) else ⊥)
    (hQ : ∀ r e, Q (ix2 r e) = (q (row c r) (hcol h e) : EReal))
    (hK : ∀ p e, K (ix2 p e) = (k (keyRow c p) (hcol h e) : EReal))
    (hV : ∀ p e, V (ix2 p e) = (v (keyRow c p) (hcol h e) : EReal)) (r : Fin 256) (d : Fin 64) :
    head M Q K V (ix2 r d) = (attend (score q k a h (row c r)) (fun j => v j (hcol h d)) (row c r) : EReal) := by
  have hw (p : Fin 768) : weights M Q K (ix2 r p)
      = ((if Seen c.val r.val p.val then Real.exp (score q k a h (row c r) (keyRow c p)) else 0 : ℝ) : EReal) := by
    rw [weights_at, hM, Consts.eighth,
      sum_eq_coe _ _ (fun e => q (row c r) (hcol h e) * k (keyRow c p) (hcol h e)) fun e _ => by rw [hQ, hK, EReal.coe_mul],
      ← EReal.coe_mul, exp_masked]
    rfl
  have hd : (∑ p : Fin 768, if Seen c.val r.val p.val then Real.exp (score q k a h (row c r) (keyRow c p)) else 0)
      = ∑ j, if Near (row c r) j then Real.exp (score q k a h (row c r) j) else 0 :=
    Spec.window_sum c r (fun j => Real.exp (score q k a h (row c r) j)) _ fun p => Iff.rfl
  have hn : (∑ p : Fin 768, (if Seen c.val r.val p.val then Real.exp (score q k a h (row c r) (keyRow c p)) else 0) * v (keyRow c p) (hcol h d))
      = ∑ j, (if Near (row c r) j then Real.exp (score q k a h (row c r) j) else 0) * v j (hcol h d) := by
    simp only [ite_mul, zero_mul]
    exact Spec.window_sum c r (fun j => Real.exp (score q k a h (row c r) j) * v j (hcol h d)) _ fun p => Iff.rfl
  rw [head_at, sum_eq_coe _ _ _ fun p _ => hw p,
    sum_eq_coe _ _ (fun p => (if Seen c.val r.val p.val then Real.exp (score q k a h (row c r) (keyRow c p)) else 0) * v (keyRow c p) (hcol h d))
      fun p _ => by rw [hw, hV, EReal.coe_mul],
    hd, hn, div_coe_coe _ _ (Spec.weights_pos _ _).ne']
  rfl

/-- The attention kernel's block on real windows: banded attention of its rows, times one minus the query mask. -/
theorem block_value (i : grid1.Coords) (hi : (i 0).val = c.val) (x0 x1 x2 x3 x4 x5 x6 : Vec Ideal S256x768 .f32)
    (x7 x8 x9 x10 : Vec Ideal S1x256 .f32)
    (h0 : ∀ r j, x0 (ix2 r j) = (q (row c r) j : EReal))
    (h1 : ∀ r j, x1 (ix2 r j) = (k (row (prev c) r) j : EReal)) (h2 : ∀ r j, x2 (ix2 r j) = (k (row c r) j : EReal))
    (h3 : ∀ r j, x3 (ix2 r j) = (k (row (next c) r) j : EReal))
    (h4 : ∀ r j, x4 (ix2 r j) = (v (row (prev c) r) j : EReal)) (h5 : ∀ r j, x5 (ix2 r j) = (v (row c r) j : EReal))
    (h6 : ∀ r j, x6 (ix2 r j) = (v (row (next c) r) j : EReal))
    (h7 : ∀ r, x7 (ix2 0 r) = (a (row (prev c) r) : EReal)) (h8 : ∀ r, x8 (ix2 0 r) = (a (row c r) : EReal))
    (h9 : ∀ r, x9 (ix2 0 r) = (a (row (next c) r) : EReal)) (r : Fin 256) (h : Fin 12) (d : Fin 64) :
    out1_11 i x0 x1 x2 x3 x4 x5 x6 x7 x8 x9 x10 (ix2 r (hcol h d))
      = (attend (score q k a h (row c r)) (fun j => v j (hcol h d)) (row c r) : EReal) * (1 - x10 (ix2 0 r)) := by
  rw [out_at, head_value c q k v a h]
  · intro r p
    rw [mask_at, hi, stackRow_value c a _ _ _ h7 h8 h9]
  · exact fun r e => h0 r (hcol h e)
  · exact stack_value c k h _ _ _ h1 h2 h3
  · exact stack_value c v h _ _ _ h4 h5 h6

end Cert.KernelIdeal.Value

end
-- ==== Proof.Attention.lean ====
/- The attention kernel: its result array holds banded attention. -/
module

public import proofs.«01_k».proof.Proof.Projection
public import proofs.«01_k».proof.Proof.BodyValue

@[expose] public section

set_option maxRecDepth 16384

noncomputable section

namespace Cert.KernelIdeal.Value

open Cert.KernelIdeal Cert.KernelIdeal.Gen
open Idealize.ShloMosaic Idealize.ShloMosaic.TcCoe
open Cert.Spec (proj cat3 hcol row attend score)
open Cert.RealSum

/-- Where the attention kernel's windows lie: the own, the previous and the next block, the ends repeated. -/
theorem idx1 : ∀ t : Fin cfg1.N, (grid1.coords t 0).val = t.val ∧ win1_0.index t = ![t.val, 0]
    ∧ win1_1.index t = ![t.val - 1, 1] ∧ win1_2.index t = ![t.val, 1] ∧ win1_3.index t = ![min (t.val + 1) 15, 1]
    ∧ win1_4.index t = ![t.val - 1, 2] ∧ win1_5.index t = ![t.val, 2] ∧ win1_6.index t = ![min (t.val + 1) 15, 2]
    ∧ win1_7.index t = ![0, t.val - 1] ∧ win1_8.index t = ![0, t.val] ∧ win1_9.index t = ![0, min (t.val + 1) 15]
    ∧ win1_10.index t = ![0, t.val] ∧ win1_11.index t = ![t.val, 0] :=
  (by decide +kernel : ∀ t : Fin grid1.N, _)

variable (x : Fin 4096 → Fin 768 → ℝ) (wq wk wv : Fin 768 → Fin 768 → ℝ) (bq bk bv : Fin 768 → ℝ) (a : Fin 4096 → ℝ)

/-- The packed array's three thirds are the queries, the keys and the values. -/
theorem qkv_parts (i : Fin 4096) (j : Fin 768) :
    qkv x wq wk wv bq bk bv i ⟨j.val, by omega⟩ = proj x wq bq i j
    ∧ qkv x wq wk wv bq bk bv i ⟨768 + j.val, by omega⟩ = proj x wk bk i j
    ∧ qkv x wq wk wv bq bk bv i ⟨1536 + j.val, by omega⟩ = proj x wv bv i j := by
  have hj := j.isLt
  unfold qkv cat3
  refine ⟨?_, ?_, ?_⟩
  · rw [dif_pos hj]
  · rw [dif_neg (by simp only; omega), dif_pos (by simp only; omega)]
    exact congrArg _ (Fin.ext (by simp only; omega))
  · rw [dif_neg (by simp only; omega), dif_neg (by simp only; omega)]
    exact congrArg _ (Fin.ext (by simp only; omega))

variable (m : (ℓ : Loc nD τ sig) → Buf (Elt Ideal) ℓ) (ρ : Dev nD → PrngReg) (c : Dev nD)

/-- What a position's row of the result is multiplied by: one minus the query mask's bit. -/
def keep (i : Fin 4096) : EReal :=
  1 - FloatOps.uitofp (F := Ideal) .f32 ((m ((c : Thread nD τ).loc main_arg2) : Vec Ideal S1x4096 .i1) (ix2 0 i))

/-- The result at a position and a column: banded attention of the column's head, times one minus the query mask. -/
def result (i : Fin 4096) (J : Fin 768) : EReal :=
  (attend (score (proj x wq bq) (proj x wk bk) a ⟨J.val / 64, by omega⟩ i) (fun j => proj x wv bv j J) i : EReal) * keep m c i

/-- The result at a head's column. -/
theorem result_at (i : Fin 4096) (h : Fin 12) (d : Fin 64) :
    result x wq wk wv bq bk bv a m c i (hcol h d)
      = (attend (score (proj x wq bq) (proj x wk bk) a h i) (fun j => proj x wv bv j (hcol h d)) i : EReal) * keep m c i := by
  unfold result
  rw [show (⟨(hcol h d).val / 64, by omega⟩ : Fin 12) = h from Fin.ext (show (64 * h.val + d.val) / 64 = h.val by omega)]

/-- The packed array as the attention kernel's entry holds it. -/
theorem entry_qkv (H : Inputs x wq wk wv bq bk bv m c) :
    V3 m ρ c main_v3 = fun j : S4096x2304.Idx => (qkv x wq wk wv bq bk bv (j 0) (j 1) : EReal) :=
  (W3_of m ρ c main_v3 (by decide)).trans (projected x wq wk wv bq bk bv m ρ c H)

/-- The query mask as numbers. -/
theorem entry_qmask (i : Fin 4096) :
    (V3 m ρ c main_v4 : Vec Ideal S1x4096 .f32) (ix2 0 i)
      = FloatOps.uitofp (F := Ideal) .f32 ((m ((c : Thread nD τ).loc main_arg2) : Vec Ideal S1x4096 .i1) (ix2 0 i)) := by
  rw [← W2_args m ρ c main_arg2 (by decide)]
  show StableHlo.after hostOps1 (W2 m ρ c) (Proc.devRef .tc main_v4) _ = _
  unfold hostOps1
  after_results
  rfl

set_option maxHeartbeats 1000000 in
/-- After the attention kernel its result array holds the result. -/
theorem attended (H : Inputs x wq wk wv bq bk bv m c)
    (ha : ∀ i, (m ((c : Thread nD τ).loc main_arg1) : Vec Ideal S1x4096 .f32) (ix2 0 i) = (a i : EReal)) :
    W4 m ρ c (Proc.devRef .tc main_v5) = fun j : S4096x768.Idx => result x wq wk wv bq bk bv a m c (j 0) (j 1) := by
  refine (W4_arr m ρ c 11).trans ((dat1 (V3 m ρ) c).arrAt_eq_of_covers 11 _ (by decide +kernel) fun t hf y => ?_)
  blk_simp
  rw [after1_11]
  have ht : t.val < 16 := t.isLt
  have hy0 : (y 0).val < 256 := (y 0).isLt
  have hy1 : (y 1).val < 768 := (y 1).isLt
  obtain ⟨h, hh⟩ : ∃ h : Fin 12, h.val = (y 1).val / 64 := ⟨⟨(y 1).val / 64, by omega⟩, rfl⟩
  obtain ⟨d, hd⟩ : ∃ d : Fin 64, d.val = (y 1).val % 64 := ⟨⟨(y 1).val % 64, by omega⟩, rfl⟩
  have hhd : (y 1 : Fin 768) = hcol h d := Fin.ext (show (y 1).val = 64 * h.val + d.val by omega)
  refine Eq.trans (congrArg _ ((eq_ix2 y).trans (congrArg (ix2 (y 0)) hhd))) ((block_value ⟨t.val, ht⟩ (proj x wq bq) (proj x wk bk) (proj x wv bv) a
    _ (idx1 t).1 _ _ _ _ _ _ _ _ _ _ _ ?_ ?_ ?_ ?_ ?_ ?_ ?_ ?_ ?_ ?_ (y 0) h d).trans ?_)
  · intro r j
    refine Eq.trans (b := (V3 m ρ c main_v3 : Vec Ideal S4096x2304 .f32) (ix2 (row ⟨t.val, ht⟩ r) ⟨j.val, by omega⟩))
      (by blk_ext [iblk1, idx1 t, row, prev, next]) ?_
    rw [entry_qkv x wq wk wv bq bk bv m ρ c H]
    exact congrArg Real.toEReal (qkv_parts x wq wk wv bq bk bv _ j).1
  · intro r j
    refine Eq.trans (b := (V3 m ρ c main_v3 : Vec Ideal S4096x2304 .f32) (ix2 (row (prev ⟨t.val, ht⟩) r) ⟨768 + j.val, by omega⟩))
      (by blk_ext [iblk1, idx1 t, row, prev, next]) ?_
    rw [entry_qkv x wq wk wv bq bk bv m ρ c H]
    exact congrArg Real.toEReal (qkv_parts x wq wk wv bq bk bv _ j).2.1
  · intro r j
    refine Eq.trans (b := (V3 m ρ c main_v3 : Vec Ideal S4096x2304 .f32) (ix2 (row ⟨t.val, ht⟩ r) ⟨768 + j.val, by omega⟩))
      (by blk_ext [iblk1, idx1 t, row, prev, next]) ?_
    rw [entry_qkv x wq wk wv bq bk bv m ρ c H]
    exact congrArg Real.toEReal (qkv_parts x wq wk wv bq bk bv _ j).2.1
  · intro r j
    refine Eq.trans (b := (V3 m ρ c main_v3 : Vec Ideal S4096x2304 .f32) (ix2 (row (next ⟨t.val, ht⟩) r) ⟨768 + j.val, by omega⟩))
      (by blk_ext [iblk1, idx1 t, row, prev, next]) ?_
    rw [entry_qkv x wq wk wv bq bk bv m ρ c H]
    exact congrArg Real.toEReal (qkv_parts x wq wk wv bq bk bv _ j).2.1
  · intro r j
    refine Eq.trans (b := (V3 m ρ c main_v3 : Vec Ideal S4096x2304 .f32) (ix2 (row (prev ⟨t.val, ht⟩) r) ⟨1536 + j.val, by omega⟩))
      (by blk_ext [iblk1, idx1 t, row, prev, next]) ?_
    rw [entry_qkv x wq wk wv bq bk bv m ρ c H]
    exact congrArg Real.toEReal (qkv_parts x wq wk wv bq bk bv _ j).2.2
  · intro r j
    refine Eq.trans (b := (V3 m ρ c main_v3 : Vec Ideal S4096x2304 .f32) (ix2 (row ⟨t.val, ht⟩ r) ⟨1536 + j.val, by omega⟩))
      (by blk_ext [iblk1, idx1 t, row, prev, next]) ?_
    rw [entry_qkv x wq wk wv bq bk bv m ρ c H]
    exact congrArg Real.toEReal (qkv_parts x wq wk wv bq bk bv _ j).2.2
  · intro r j
    refine Eq.trans (b := (V3 m ρ c main_v3 : Vec Ideal S4096x2304 .f32) (ix2 (row (next ⟨t.val, ht⟩) r) ⟨1536 + j.val, by omega⟩))
      (by blk_ext [iblk1, idx1 t, row, prev, next]) ?_
    rw [entry_qkv x wq wk wv bq bk bv m ρ c H]
    exact congrArg Real.toEReal (qkv_parts x wq wk wv bq bk bv _ j).2.2
  · intro r
    rw [← ha, ← W3_args m ρ c main_arg1 (by decide)]
    blk_ext [iblk1, idx1 t, row, prev, next]
  · intro r
    rw [← ha, ← W3_args m ρ c main_arg1 (by decide)]
    blk_ext [iblk1, idx1 t, row, prev, next]
  · intro r
    rw [← ha, ← W3_args m ρ c main_arg1 (by decide)]
    blk_ext [iblk1, idx1 t, row, prev, next]
  · refine Eq.trans (congrArg (fun z : EReal => _ * (1 - z)) ?_) ((result_at x wq wk wv bq bk bv a m c (row ⟨t.val, ht⟩ (y 0)) h d).symm.trans ?_)
    · refine Eq.trans ?_ (entry_qmask m ρ c (row ⟨t.val, ht⟩ (y 0)))
      blk_ext [iblk1, idx1 t, row]
    · rw [← hhd]
      refine congrArg₂ (result x wq wk wv bq bk bv a m c) (Fin.ext ?_) (Fin.ext ?_)
      · blk_simp [idx1 t]
        show 256 * t.val + _ = _
        omega
      · blk_simp [idx1 t]

/-- The program's result: the result of every position and head. -/
theorem kernel_value (H : Inputs x wq wk wv bq bk bv m c)
    (ha : ∀ i, (m ((c : Thread nD τ).loc main_arg1) : Vec Ideal S1x4096 .f32) (ix2 0 i) = (a i : EReal))
    (i : Fin 4096) (h : Fin 12) (d : Fin 64) :
    (W5 m ρ c (Proc.devRef .tc main_v6) : Vec Ideal S1x4096x768 .f32) (ix3 0 i (hcol h d))
      = (attend (score (proj x wq bq) (proj x wk bk) a h i) (fun j => proj x wv bv j (hcol h d)) i : EReal) * keep m c i := by
  rw [← result_at]
  refine Eq.trans (b := (W4 m ρ c (Proc.devRef .tc main_v5) : Vec Ideal S4096x768 .f32) (ix2 i (hcol h d))) ?_
    (congrFun (attended x wq wk wv bq bk bv a m ρ c H ha) _)
  show StableHlo.after hostOps2 (W4 m ρ c) (Proc.devRef .tc main_v6) _ = _
  unfold hostOps2
  after_results
  pointwise

end Cert.KernelIdeal.Value

end
-- ==== Proof.Reference.lean ====
/- The reference's result in stages, and each stage at an index. -/
module

public import proofs.«01_k».proof.Proof.Spec
public import proofs.«01_k».proof.Proof.Consts
public import proofs.«01_k».proof.Proof.RealSum
public import proofs.«01_k».proof.Proof.Gen.ReferenceIdeal.Run
public import Idealize.ShloMosaic.Lib.Pipeline.ValueKit
public import Idealize.ShloMosaic.Lib.Tactic.WordOmega

@[expose] public section

set_option maxRecDepth 16384

noncomputable section

namespace Cert.ReferenceIdeal.Value

open Cert.ReferenceIdeal Cert.ReferenceIdeal.Gen
open Idealize.ShloMosaic Idealize.ShloMosaic.TcCoe
open Cert.Spec (hcol)

/-- A projection of the input with a bias. -/
def linear (x : FVec Ideal S1x4096x768 .f32) (w : FVec Ideal S768x768 .f32) (b : FVec Ideal S768 .f32) : FVec Ideal S1x4096x768 .f32 :=
  addf (Host.dotGeneral dot_S1x4096x768_S768x768_S1x4096x768_2_0_01_1_n_n none x w)
    (broadcastInDim S1x4096x768 ![0, 1, 2] bcast_S1x1x768_S1x4096x768_0_1_2 (broadcastInDim S1x1x768 ![2] bcast_S768_S1x1x768_2 b))

/-- The queries divided by the root of the head width. -/
def scaled (q : FVec Ideal S1x4096x768 .f32) : FVec Ideal S1x4096x768 .f32 :=
  Host.divf q (broadcastInDim S1x4096x768 ![] bcast_S_S1x4096x768 (Host.sqrt (constant S_ .f32 0x42800000#32)))

/-- The columns split into heads. -/
def heads (x : FVec Ideal S1x4096x768 .f32) : FVec Ideal S1x12x4096x64 .f32 :=
  transpose S1x12x4096x64 [0, 2, 1, 3] (shapeCast S1x4096x12x64 x shapeCasts_S1x4096x768_S1x4096x12x64) transposes_S1x4096x12x64_S1x12x4096x64_0_2_1_3

/-- The word that is one where key and query are at most 256 apart. -/
def band : IVec S4096x4096 1 :=
  andi (cmpi .sge (subi (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))
      (broadcastInDim S4096x4096 ![] bcast_S_S4096x4096 (constantI S_ 32 4294967040#32)))
    (cmpi .sle (subi (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))
      (broadcastInDim S4096x4096 ![] bcast_S_S4096x4096 (constantI S_ 32 256#32)))

/-- The scores with the additive mask, minus infinity outside the band. -/
def scores (q k : FVec Ideal S1x12x4096x64 .f32) (a : FVec Ideal S1x4096 .f32) : FVec Ideal S1x12x4096x4096 .f32 :=
  select (broadcastInDim S1x12x4096x4096 ![0, 1, 2, 3] bcast_S1x1x4096x4096_S1x12x4096x4096_0_1_2_3
      (broadcastInDim S1x1x4096x4096 ![2, 3] bcast_S4096x4096_S1x1x4096x4096_2_3 band))
    (addf (Host.dotGeneral dot_S1x12x4096x64_S1x12x4096x64_S1x12x4096x4096_3_3_2_2_01_01 none q k)
      (broadcastInDim S1x12x4096x4096 ![0, 1, 2, 3] bcast_S1x1x1x4096_S1x12x4096x4096_0_1_2_3 (broadcastInDim S1x1x1x4096 ![0, 3] bcast_S1x4096_S1x1x1x4096_0_3 a)))
    (broadcastInDim S1x12x4096x4096 ![] bcast_S_S1x12x4096x4096 (id (constant S_ .f32 0xFF800000#32)))

/-- The maximum of each row of scores. -/
def rowMax (s : FVec Ideal S1x12x4096x4096 .f32) : FVec Ideal S1x12x4096 .f32 :=
  Host.reduce FloatOps.maximumf s (constant S_ .f32 0xFF800000#32) reducesTo_S1x12x4096x4096_S1x12x4096_d3 h_S_

/-- The largest score of each query, or minus infinity. -/
def top (s : FVec Ideal S1x12x4096x4096 .f32) : FVec Ideal S1x12x4096 .f32 :=
  maximumf (broadcastInDim S1x12x4096 ![] bcast_S_S1x12x4096 (constant S_ .f32 0xFF800000#32)) (rowMax s)

/-- A value per query, repeated over the keys. -/
def perQuery (t : FVec Ideal S1x12x4096 .f32) : FVec Ideal S1x12x4096x4096 .f32 :=
  broadcastInDim S1x12x4096x4096 ![0, 1, 2, 3] bcast_S1x12x4096x1_S1x12x4096x4096_0_1_2_3 (broadcastInDim S1x12x4096x1 ![0, 1, 2] bcast_S1x12x4096_S1x12x4096x1_0_1_2 t)

/-- The exponentials of the scores less their largest. -/
def exps (s : FVec Ideal S1x12x4096x4096 .f32) : FVec Ideal S1x12x4096x4096 .f32 := Host.exp (subf s (perQuery (top s)))

/-- The softmax of the scores. -/
def probs (s : FVec Ideal S1x12x4096x4096 .f32) : FVec Ideal S1x12x4096x4096 .f32 :=
  Host.divf (exps s) (perQuery (Host.reduceAdd (exps s) (constant S_ .f32 0x00000000#32) reducesTo_S1x12x4096x4096_S1x12x4096_d3 h_S_))

/-- The rows of masked queries set to zero. -/
def unmasked (mk : IVec S1x4096 1) (p : FVec Ideal S1x12x4096x4096 .f32) : FVec Ideal S1x12x4096x4096 .f32 :=
  select (broadcastInDim S1x12x4096x4096 ![0, 1, 2, 3] bcast_S1x1x4096x1_S1x12x4096x4096_0_1_2_3 (broadcastInDim S1x1x4096x1 ![0, 2] bcast_S1x4096_S1x1x4096x1_0_2 mk))
    (broadcastInDim S1x12x4096x4096 ![] bcast_S_S1x12x4096x4096 (id (constant S_ .f32 0x00000000#32))) p

/-- The weighted sums of the values, the heads joined again. -/
def joined (p : FVec Ideal S1x12x4096x4096 .f32) (v : FVec Ideal S1x12x4096x64 .f32) : FVec Ideal S1x4096x768 .f32 :=
  shapeCast S1x4096x768 (transpose S1x4096x12x64 [0, 2, 1, 3] (Host.dotGeneral dot_S1x12x4096x4096_S1x12x4096x64_S1x12x4096x64_3_2_2_3_01_01 none p v)
    transposes_S1x12x4096x64_S1x4096x12x64_0_2_1_3) shapeCasts_S1x4096x12x64_S1x4096x768

/-- The reference's result is the stages composed. -/
theorem result_stages (m : (ℓ : Loc nD τ sig) → Buf (Elt Ideal) ℓ) (c : Dev nD) :
    res_main_v53 m c = joined (unmasked (m ((c : Thread nD τ).loc main_arg2))
      (probs (scores (heads (scaled (linear (m ((c : Thread nD τ).loc main_arg0)) (m ((c : Thread nD τ).loc main_arg5)) (m ((c : Thread nD τ).loc main_arg6)))))
        (heads (linear (m ((c : Thread nD τ).loc main_arg0)) (m ((c : Thread nD τ).loc main_arg7)) (m ((c : Thread nD τ).loc main_arg8))))
        (m ((c : Thread nD τ).loc main_arg1)))))
      (heads (linear (m ((c : Thread nD τ).loc main_arg0)) (m ((c : Thread nD τ).loc main_arg9)) (m ((c : Thread nD τ).loc main_arg10)))) := rfl

/-- A projection at an index. -/
theorem linear_at (x : FVec Ideal S1x4096x768 .f32) (w : FVec Ideal S768x768 .f32) (b : FVec Ideal S768 .f32) (i : Fin 4096) (j : Fin 768) :
    linear x w b (ix3 0 i j) = (∑ k : Fin 768, x (ix3 0 i k) * w (ix2 k j)) + b (ix1 j) := by
  pointwise [linear]

/-- A scaled query at an index. -/
theorem scaled_at (q : FVec Ideal S1x4096x768 .f32) (i : Fin 4096) (j : Fin 768) :
    scaled q (ix3 0 i j) = Ideal.div (q (ix3 0 i j)) (Ideal.sqrt (Ideal.ofBits FTy.f32 0x42800000#32)) := by
  pointwise [scaled]

/-- A head's entry is the entry at the head's column. -/
theorem heads_at (x : FVec Ideal S1x4096x768 .f32) (h : Fin 12) (i : Fin 4096) (d : Fin 64) :
    heads x (ix4 0 h i d) = x (ix3 0 i (hcol h d)) := by
  pointwise [heads]
  blk_ext [hcol]

/-- The band's word is one exactly where the positions are near. -/
theorem band_at (i j : Fin 4096) : band (ix2 i j) = 1#1 ↔ Spec.Near i j := by
  have hi := i.isLt
  have hj := j.isLt
  pointwise [band]
  unfold Spec.Near
  simp only [IntOp.subi]
  word_omega

/-- A score at an index. -/
theorem scores_at (q k : FVec Ideal S1x12x4096x64 .f32) (a : FVec Ideal S1x4096 .f32) (h : Fin 12) (i j : Fin 4096) :
    scores q k a (ix4 0 h i j)
      = if Spec.Near i j then (∑ e : Fin 64, q (ix4 0 h i e) * k (ix4 0 h j e)) + a (ix2 0 j) else ⊥ := by
  pointwise [scores]
  exact (if_congr (band_at i j) rfl rfl).trans (congrArg (fun z : EReal => if Spec.Near i j then _ else z) Consts.minusInf)

/-- The maximum over the last of four axes, at an index. -/
theorem reduce_max_at {n0 n1 n2 n3 : ℕ} {u : Shape} (s : FVec Ideal ⟨4, ![n0, n1, n2, n3]⟩ .f32) (init : FVec Ideal u .f32)
    (r : (⟨4, ![n0, n1, n2, n3]⟩ : Shape).ReducesTo [3] ⟨3, ![n0, n1, n2]⟩) (hu : 0 < u.numel) (a : Fin n0) (b : Fin n1) (c : Fin n2) :
    Host.reduce FloatOps.maximumf s init r hu (ix3 a b c)
      = (Finset.univ : Finset (Fin n3)).fold max (init (Shape.Idx.first hu)) fun k => s (ix4 a b c k) := by
  rw [Host.reduce_eq_fold]
  simp only [pointwise]

/-- The row maximum at an index. -/
theorem rowMax_at (s : FVec Ideal S1x12x4096x4096 .f32) (h : Fin 12) (i : Fin 4096) :
    rowMax s (ix3 0 h i) = (Finset.univ : Finset (Fin 4096)).fold max (constant (F := Ideal) S_ .f32 0xFF800000#32 (Shape.Idx.first h_S_))
      fun k => s (ix4 0 h i k) := by
  unfold rowMax
  exact reduce_max_at s _ reducesTo_S1x12x4096x4096_S1x12x4096_d3 h_S_ 0 h i

/-- An elementwise maximum at an index. -/
theorem maximumf_at {s : Shape} (x y : FVec Ideal s .f32) (j : s.Idx) : maximumf x y j = max (x j) (y j) := rfl

/-- The largest score of a query at an index. -/
theorem top_at (s : FVec Ideal S1x12x4096x4096 .f32) (h : Fin 12) (i : Fin 4096) :
    top s (ix3 0 h i) = (Finset.univ : Finset (Fin 4096)).fold max ⊥ fun k => s (ix4 0 h i k) := by
  have e : (broadcastInDim S1x12x4096 ![] bcast_S_S1x12x4096 (constant S_ .f32 0xFF800000#32) : FVec Ideal S1x12x4096 .f32) (ix3 0 h i) = ⊥ := by
    pointwise
    exact Consts.minusInf
  have e' : constant (F := Ideal) S_ .f32 0xFF800000#32 (Shape.Idx.first h_S_) = ⊥ := Consts.minusInf
  unfold top
  rw [maximumf_at, rowMax_at, e, e', max_eq_right bot_le]

/-- An exponential at an index. -/
theorem exps_at (s : FVec Ideal S1x12x4096x4096 .f32) (h : Fin 12) (i j : Fin 4096) :
    exps s (ix4 0 h i j) = Ideal.exp (s (ix4 0 h i j) - top s (ix3 0 h i)) := by
  pointwise [exps, perQuery]

/-- A softmax entry at an index. -/
theorem probs_at (s : FVec Ideal S1x12x4096x4096 .f32) (h : Fin 12) (i j : Fin 4096) :
    probs s (ix4 0 h i j) = Ideal.div (exps s (ix4 0 h i j)) (∑ j' : Fin 4096, exps s (ix4 0 h i j')) := by
  pointwise [probs, perQuery]

/-- A weight at an index: zero in a masked row. -/
theorem unmasked_at (mk : IVec S1x4096 1) (p : FVec Ideal S1x12x4096x4096 .f32) (h : Fin 12) (i j : Fin 4096) :
    unmasked mk p (ix4 0 h i j) = if mk (ix2 0 i) = 1#1 then 0 else p (ix4 0 h i j) := by
  have e : (constant (F := Ideal) S_ .f32 0#32) ix0 = 0 := by pointwise
  pointwise [unmasked]
  exact congrArg (fun z : EReal => if mk (ix2 0 i) = 1#1 then z else _) e

/-- The result at a head's column. -/
theorem joined_at (p : FVec Ideal S1x12x4096x4096 .f32) (v : FVec Ideal S1x12x4096x64 .f32) (h : Fin 12) (i : Fin 4096) (d : Fin 64) :
    joined p v (ix3 0 i (hcol h d)) = ∑ j : Fin 4096, p (ix4 0 h i j) * v (ix4 0 h j d) := by
  have e1 (x) : (⟨(hcol h d).val / 64, x⟩ : Fin 12) = h := Fin.ext (show (64 * h.val + d.val) / 64 = h.val by omega)
  have e2 (x) : (⟨(hcol h d).val % 64, x⟩ : Fin 64) = d := Fin.ext (show (64 * h.val + d.val) % 64 = d.val by omega)
  pointwise [joined]
  simp only [e1, e2]

end Cert.ReferenceIdeal.Value

end
-- ==== Proof.RefValue.lean ====
/- The reference on real inputs: its result holds banded attention, and zero in the rows of masked queries. -/
module

public import proofs.«01_k».proof.Proof.Reference

@[expose] public section

set_option maxRecDepth 16384

noncomputable section

namespace Cert.ReferenceIdeal.Value

open Cert.ReferenceIdeal Cert.ReferenceIdeal.Gen
open Idealize.ShloMosaic Idealize.ShloMosaic.TcCoe
open Cert.Spec (proj hcol attend score Near weights_pos attend_shift attend_normalised)
open Cert.RealSum

/-- A projection of real arrays is the real projection. -/
theorem linear_value (x : Fin 4096 → Fin 768 → ℝ) (w : Fin 768 → Fin 768 → ℝ) (b : Fin 768 → ℝ)
    (X : FVec Ideal S1x4096x768 .f32) (W : FVec Ideal S768x768 .f32) (B : FVec Ideal S768 .f32)
    (hx : ∀ i k, X (ix3 0 i k) = (x i k : EReal)) (hw : ∀ k j, W (ix2 k j) = (w k j : EReal)) (hb : ∀ j, B (ix1 j) = (b j : EReal))
    (i : Fin 4096) (j : Fin 768) : linear X W B (ix3 0 i j) = (proj x w b i j : EReal) := by
  unfold proj
  rw [linear_at, sum_eq_coe _ _ (fun k => x i k * w k j) fun k _ => by rw [hx, hw, EReal.coe_mul], hb, EReal.coe_add]

/-- Scaled real queries are the queries over eight. -/
theorem scaled_value (q : Fin 4096 → Fin 768 → ℝ) (Q : FVec Ideal S1x4096x768 .f32) (hq : ∀ i j, Q (ix3 0 i j) = (q i j : EReal))
    (i : Fin 4096) (j : Fin 768) : scaled Q (ix3 0 i j) = ((q i j / 8 : ℝ) : EReal) := by
  have e : Real.sqrt 64 = 8 := by
    rw [show (64 : ℝ) = 8 ^ 2 by norm_num]
    exact Real.sqrt_sq (by norm_num)
  rw [scaled_at, hq, Consts.sixtyFour, Ideal.sqrt_coe, if_neg (by norm_num), e, div_coe_coe _ _ (by norm_num)]

/-- The scores of real queries and keys: real within the band, minus infinity outside it. -/
theorem scores_value (q k : Fin 4096 → Fin 768 → ℝ) (a : Fin 4096 → ℝ) (Q K : FVec Ideal S1x12x4096x64 .f32) (A : FVec Ideal S1x4096 .f32)
    (hQ : ∀ h i e, Q (ix4 0 h i e) = ((q i (hcol h e) / 8 : ℝ) : EReal)) (hK : ∀ h i e, K (ix4 0 h i e) = (k i (hcol h e) : EReal))
    (hA : ∀ j, A (ix2 0 j) = (a j : EReal)) (h : Fin 12) (i j : Fin 4096) :
    scores Q K A (ix4 0 h i j) = if Near i j then (score q k a h i j : EReal) else ⊥ := by
  rw [scores_at]
  refine if_congr Iff.rfl ?_ rfl
  rw [sum_eq_coe _ _ (fun e => q i (hcol h e) / 8 * k j (hcol h e)) fun e _ => by rw [hQ, hK, EReal.coe_mul], hA, ← EReal.coe_add]
  unfold score
  rw [Finset.sum_mul]
  congr 2
  exact Finset.sum_congr rfl fun e _ => by ring

/-- The maximum of a row that is real at some place and minus infinity elsewhere is real. -/
theorem fold_max_real {ι : Type} [Fintype ι] (p : ι → Prop) [DecidablePred p] (σ : ι → ℝ) (i : ι) (hi : p i) :
    ∃ μ : ℝ, ((Finset.univ : Finset ι).fold max ⊥ fun j => if p j then (σ j : EReal) else ⊥) = (μ : EReal) := by
  refine ⟨EReal.toReal _, (EReal.coe_toReal (ne_of_lt ?_) (ne_of_gt (lt_of_lt_of_le (EReal.bot_lt_coe (σ i)) ?_))).symm⟩
  · refine (Finset.fold_max_lt _).2 ⟨bot_lt_top, fun j _ => ?_⟩
    split_ifs
    exacts [EReal.coe_lt_top _, bot_lt_top]
  · exact (Finset.le_fold_max _).2 (Or.inr ⟨i, Finset.mem_univ i, by rw [if_pos hi]⟩)

section Row

variable (S : FVec Ideal S1x12x4096x4096 .f32) (σ : Fin 4096 → ℝ) (h : Fin 12) (i : Fin 4096)
  (hS : ∀ j, S (ix4 0 h i j) = if Near i j then (σ j : EReal) else ⊥)

include hS

/-- The exponentials of a row: those of the scores less one real number within the band, zero outside it. -/
theorem exps_value : ∃ μ : ℝ, ∀ j, exps S (ix4 0 h i j) = ((if Near i j then Real.exp (σ j - μ) else 0 : ℝ) : EReal) := by
  obtain ⟨μ, hμ⟩ := fold_max_real (fun j => Near i j) σ i ⟨by omega, by omega⟩
  refine ⟨μ, fun j => ?_⟩
  have e : top S (ix3 0 h i) = (μ : EReal) := by
    rw [top_at, ← hμ]
    exact congrArg (fun f => (Finset.univ : Finset (Fin 4096)).fold max ⊥ f) (funext hS)
  rw [exps_at, e, hS]
  split_ifs
  · rw [← EReal.coe_sub, Ideal.exp_coe]
  · rw [EReal.bot_sub, Ideal.exp_bot, EReal.coe_zero]

/-- The weighted sum of real values under a row's softmax is the attention. -/
theorem probs_value (V : Fin 4096 → EReal) (v : Fin 4096 → ℝ) (hV : ∀ j, V j = (v j : EReal)) :
    (∑ j, probs S (ix4 0 h i j) * V j) = (attend σ v i : EReal) := by
  obtain ⟨μ, hμ⟩ := exps_value S σ h i hS
  have hs : (∑ j : Fin 4096, exps S (ix4 0 h i j)) = ((∑ j, if Near i j then Real.exp (σ j - μ) else 0 : ℝ) : EReal) :=
    sum_eq_coe _ _ _ fun j _ => hμ j
  have hp := ne_of_gt (weights_pos (fun j => σ j - μ) i)
  rw [← attend_shift σ v i μ, ← attend_normalised (fun j => σ j - μ) v i]
  refine sum_eq_coe _ _ _ fun j _ => ?_
  rw [probs_at, hs, hμ, hV, div_coe_coe _ _ hp, ← EReal.coe_mul, ← mul_one_div]

end Row

/-- The reference's result on real inputs, at a head's column. -/
theorem reference_value (x : Fin 4096 → Fin 768 → ℝ) (wq wk wv : Fin 768 → Fin 768 → ℝ) (bq bk bv : Fin 768 → ℝ) (a : Fin 4096 → ℝ)
    (X : FVec Ideal S1x4096x768 .f32) (Wq Wk Wv : FVec Ideal S768x768 .f32) (Bq Bk Bv : FVec Ideal S768 .f32) (A : FVec Ideal S1x4096 .f32)
    (mk : IVec S1x4096 1)
    (hx : ∀ i k, X (ix3 0 i k) = (x i k : EReal)) (hwq : ∀ k j, Wq (ix2 k j) = (wq k j : EReal)) (hbq : ∀ j, Bq (ix1 j) = (bq j : EReal))
    (hwk : ∀ k j, Wk (ix2 k j) = (wk k j : EReal)) (hbk : ∀ j, Bk (ix1 j) = (bk j : EReal))
    (hwv : ∀ k j, Wv (ix2 k j) = (wv k j : EReal)) (hbv : ∀ j, Bv (ix1 j) = (bv j : EReal)) (ha : ∀ j, A (ix2 0 j) = (a j : EReal))
    (i : Fin 4096) (h : Fin 12) (d : Fin 64) :
    joined (unmasked mk (probs (scores (heads (scaled (linear X Wq Bq))) (heads (linear X Wk Bk)) A))) (heads (linear X Wv Bv)) (ix3 0 i (hcol h d))
      = if mk (ix2 0 i) = 1#1 then 0
        else (attend (score (proj x wq bq) (proj x wk bk) a h i) (fun j => proj x wv bv j (hcol h d)) i : EReal) := by
  rw [joined_at]
  simp only [unmasked_at]
  split_ifs with hm
  · exact Finset.sum_eq_zero fun j _ => zero_mul _
  · refine probs_value _ _ h i (fun j => ?_) _ _ fun j => ?_
    · refine scores_value _ _ a _ _ _ (fun h i e => ?_) (fun h i e => ?_) ha h i j
      · rw [heads_at]
        exact scaled_value _ _ (linear_value x wq bq X Wq Bq hx hwq hbq) _ _
      · rw [heads_at]
        exact linear_value x wk bk X Wk Bk hx hwk hbk _ _
    · rw [heads_at]
      exact linear_value x wv bv X Wv Bv hx hwv hbv _ _

end Cert.ReferenceIdeal.Value

end
-- ==== Proof.Finite.lean ====
/- The precondition read back: every entry of every float argument is a real number. -/
module

public import proofs.«01_k».proof.Defs
public import proofs.«01_k».proof.Proof.Consts
public import Idealize.ShloMosaic.Lib.ReduceAll

@[expose] public section

noncomputable section

namespace Cert.Pre_finite.Gen

open Idealize.ShloMosaic

/-- The side conditions of the precondition's operations. -/
instance facts : Cert.Pre_finite.Facts where
  bcast_S_S1x4096x768 := by decide
  reducesTo_S1x4096x768_S_d0_1_2 := by decide
  h_S_ := by decide
  bcast_S_S1x4096 := by decide
  reducesTo_S1x4096_S_d0_1 := by decide
  bcast_S_S768x768 := by decide
  reducesTo_S768x768_S_d0_1 := by decide
  bcast_S_S768 := by decide
  reducesTo_S768_S_d0 := by decide

end Cert.Pre_finite.Gen

namespace Cert.Finite

open Idealize.ShloMosaic
open Cert.Pre_finite (S_)

/-- An entry whose magnitude is below plus infinity is a real number. -/
theorem real_of_lt (z : EReal) (h : FloatOps.cmpf (F := Ideal) (φ := .f32) .olt (FloatOps.absf (F := Ideal) (φ := .f32) z) (⊤ : EReal) = 1#1) :
    z = ((EReal.toReal z : ℝ) : EReal) := by
  have h' : max z (-z) < ⊤ := by
    by_contra hn
    have e : Ideal.cmp .olt (max z (-z)) ⊤ = 0#1 := by
      unfold Ideal.cmp
      simp [hn]
    exact absurd (e.symm.trans h) (by decide)
  refine (EReal.coe_toReal (ne_of_lt (lt_of_le_of_lt (le_max_left _ _) h')) fun hb => ?_).symm
  rw [hb] at h'
  simp at h'

/-- Every entry of an array is a real number. -/
def AllReal {s : Shape} (x : FVec Ideal s .f32) : Prop := ∀ i, x i = ((EReal.toReal (x i) : ℝ) : EReal)

/-- If all magnitudes of an array are below plus infinity, every entry is a real number. -/
theorem real_of_all {s : Shape} {axes : List (Fin s.rank)} (x : FVec Ideal s .f32) (r : s.ReducesTo axes S_) (b : S_.BroadcastsInDim s (![] : Fin 0 → Fin s.rank))
    (hu : 0 < S_.numel) (j : S_.Idx)
    (e : Host.reduce IntOp.andi (cmpf .olt (Host.absf x) (broadcastInDim s ![] b (constant S_ .f32 0x7F800000#32))) (constantI S_ 1 1#1) r hu j = 1#1) :
    AllReal x := by
  intro i
  haveI : Subsingleton S_.Idx := ⟨fun a b => funext fun k => k.elim0⟩
  have h := Host.reduce_andi_all _ _ r hu j e i
  refine real_of_lt (x i) ?_
  rw [← Consts.plusInf]
  exact h

open Cert.Pre_finite in
/-- The precondition says that every float argument holds real numbers only. -/
theorem all_real (a0 : FVec Ideal S1x4096x768 .f32) (a1 : FVec Ideal S1x4096 .f32) (a2 a3 : IVec S1x4096 1) (a4 : IVec S_ 1)
    (a5 : FVec Ideal S768x768 .f32) (a6 : FVec Ideal S768 .f32) (a7 : FVec Ideal S768x768 .f32) (a8 : FVec Ideal S768 .f32)
    (a9 : FVec Ideal S768x768 .f32) (a10 : FVec Ideal S768 .f32)
    (e : Cert.Pre_finite.fn (F := Ideal) a0 a1 a2 a3 a4 a5 a6 a7 a8 a9 a10 = fun _ => 1#1) :
    AllReal a0 ∧ AllReal a1 ∧ AllReal a5 ∧ AllReal a6 ∧ AllReal a7 ∧ AllReal a8 ∧ AllReal a9 ∧ AllReal a10 := by
  have h := congrFun e (fun k => k.elim0)
  unfold Cert.Pre_finite.fn fn_part1 fn_part2 at h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h0, h1⟩ := IntOp.andi_eq_one.1 h
  exact ⟨real_of_all _ _ _ _ _ h0, real_of_all _ _ _ _ _ h1, real_of_all _ _ _ _ _ h5, real_of_all _ _ _ _ _ h6,
    real_of_all _ _ _ _ _ h7, real_of_all _ _ _ _ _ h8, real_of_all _ _ _ _ _ h9, real_of_all _ _ _ _ _ h10⟩

end Cert.Finite

end
-- ==== Proof.Equation.lean ====
/- The equation: on finite arguments the kernel's result is the reference's. -/
module

public import proofs.«01_k».proof.Proof.Attention
public import proofs.«01_k».proof.Proof.RefValue
public import proofs.«01_k».proof.Proof.Finite

@[expose] public section

set_option maxRecDepth 16384

noncomputable section

namespace Cert.Equation

open Idealize.ShloMosaic Idealize.ShloMosaic.TcCoe
open Cert.Spec (proj hcol attend score)
open Cert.KernelIdeal (nD τ sig)

/-- Every column is a head's column. -/
theorem hcol_surj (j : Fin 768) : ∃ (h : Fin 12) (d : Fin 64), j = hcol h d :=
  ⟨⟨j.val / 64, by omega⟩, ⟨j.val % 64, by omega⟩, Fin.ext (show j.val = 64 * (j.val / 64) + j.val % 64 by omega)⟩

/-- A factor that is one less the mask's bit sets the masked values to zero and keeps the others. -/
theorem mul_keep (b : BitVec 1) (r : ℝ) : (r : EReal) * (1 - FloatOps.uitofp (F := Ideal) .f32 b) = if b = 1#1 then 0 else (r : EReal) := by
  have h : b = 0#1 ∨ b = 1#1 := by revert b; decide
  rcases h with rfl | rfl
  · have e : FloatOps.uitofp (F := Ideal) .f32 0#1 = (0 : EReal) := by
      show (((0 : ℕ) : ℝ) : EReal) = 0
      simp
    rw [e, sub_zero, mul_one, if_neg (by decide)]
  · have e : (1 : EReal) - FloatOps.uitofp (F := Ideal) .f32 1#1 = 0 := by
      show (1 : EReal) - (((1 : ℕ) : ℝ) : EReal) = 0
      rw [Nat.cast_one, EReal.coe_one, ← EReal.coe_one, ← EReal.coe_sub, sub_self, EReal.coe_zero]
    rw [e, mul_zero, if_pos rfl]

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ) (c : Dev nD)

/-- On finite arguments, the same on both sides, the two results are equal. -/
theorem results_eq (hpre : Cert.Pre_KernelIdeal_finite m)
    (e0 : m' ((c.tc : Thread ReferenceIdeal.nD ReferenceIdeal.τ).loc ReferenceIdeal.main_arg0) = m ((c.tc : Thread nD τ).loc KernelIdeal.main_arg0))
    (e1 : m' ((c.tc : Thread ReferenceIdeal.nD ReferenceIdeal.τ).loc ReferenceIdeal.main_arg1) = m ((c.tc : Thread nD τ).loc KernelIdeal.main_arg1))
    (e2 : m' ((c.tc : Thread ReferenceIdeal.nD ReferenceIdeal.τ).loc ReferenceIdeal.main_arg2) = m ((c.tc : Thread nD τ).loc KernelIdeal.main_arg2))
    (e5 : m' ((c.tc : Thread ReferenceIdeal.nD ReferenceIdeal.τ).loc ReferenceIdeal.main_arg5) = m ((c.tc : Thread nD τ).loc KernelIdeal.main_arg5))
    (e6 : m' ((c.tc : Thread ReferenceIdeal.nD ReferenceIdeal.τ).loc ReferenceIdeal.main_arg6) = m ((c.tc : Thread nD τ).loc KernelIdeal.main_arg6))
    (e7 : m' ((c.tc : Thread ReferenceIdeal.nD ReferenceIdeal.τ).loc ReferenceIdeal.main_arg7) = m ((c.tc : Thread nD τ).loc KernelIdeal.main_arg7))
    (e8 : m' ((c.tc : Thread ReferenceIdeal.nD ReferenceIdeal.τ).loc ReferenceIdeal.main_arg8) = m ((c.tc : Thread nD τ).loc KernelIdeal.main_arg8))
    (e9 : m' ((c.tc : Thread ReferenceIdeal.nD ReferenceIdeal.τ).loc ReferenceIdeal.main_arg9) = m ((c.tc : Thread nD τ).loc KernelIdeal.main_arg9))
    (e10 : m' ((c.tc : Thread ReferenceIdeal.nD ReferenceIdeal.τ).loc ReferenceIdeal.main_arg10) = m ((c.tc : Thread nD τ).loc KernelIdeal.main_arg10)) :
    (ReferenceIdeal.Value.res_main_v53 m' c : FVec Ideal ReferenceIdeal.S1x4096x768 .f32)
      = (KernelIdeal.Gen.W5 m ρ c (Proc.devRef .tc KernelIdeal.main_v6) : FVec Ideal KernelIdeal.S1x4096x768 .f32) := by
  obtain ⟨h0, h1, h5, h6, h7, h8, h9, h10⟩ := Finite.all_real _ _ _ _ _ _ _ _ _ _ _ (hpre c)
  rw [ReferenceIdeal.Value.result_stages, e0, e1, e2, e5, e6, e7, e8, e9, e10]
  funext z
  obtain ⟨z0, i, j, rfl⟩ : ∃ (z0 : Fin 1) (i : Fin 4096) (j : Fin 768), z = ix3 z0 i j := ⟨z 0, z 1, z 2, eq_ix3 z⟩
  obtain rfl : z0 = 0 := Subsingleton.elim _ _
  obtain ⟨h, d, rfl⟩ := hcol_surj j
  refine (ReferenceIdeal.Value.reference_value _ _ _ _ _ _ _ _ _ _ _ _ _ _ _ _ _
    (fun i k => h0 (ix3 0 i k)) (fun k j => h5 (ix2 k j)) (fun j => h6 (ix1 j)) (fun k j => h7 (ix2 k j)) (fun j => h8 (ix1 j))
    (fun k j => h9 (ix2 k j)) (fun j => h10 (ix1 j)) (fun j => h1 (ix2 0 j)) i h d).trans ?_
  refine (mul_keep _ _).symm.trans (KernelIdeal.Value.kernel_value _ _ _ _ _ _ _ _ m ρ c
    ⟨fun i k => h0 (ix3 0 i k), fun k j => h5 (ix2 k j), fun j => h6 (ix1 j), fun k j => h7 (ix2 k j), fun j => h8 (ix1 j),
      fun k j => h9 (ix2 k j), fun j => h10 (ix1 j)⟩ (fun j => h1 (ix2 0 j)) i h d).symm

end Cert.Equation

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KernelRun
public import proofs.«01_k».proof.Proof.Equation
public import Idealize.ShloMosaic.Adequacy
public import Idealize.ShloMosaic.Init

@[expose] public section

noncomputable section

namespace Cert.Proof

open Idealize.ShloMosaic Idealize.SL.Sem

/-- The kernel runs and leaves its arguments and its counters as they were. -/
theorem frame_p : Cert.quiescent_Kernel := fun m ρ _ => Cert.Kernel.Gen.frame m ρ

/-- So does the idealized kernel. -/
theorem frame_pi : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant is the table's value. -/
theorem preserves : Cert.preserves_Kernel_KernelIdeal :=
  IdealRules.named_const.statement Cert.KernelIdeal.κ "mask" .f32 0xCE6E6B28#32 ⊥ rfl

/-- On finite arguments the kernel and the reference compute the same array over the extended reals. -/
theorem algebraic : Cert.algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨e0, e1, e2, -, -, e5, e6, e7, e8, e9, e10⟩ := hagree c
  exact Cert.Equation.results_eq m ρ m' c hpre e0 e1 e2 e5 e6 e7 e8 e9 e10

/-- Everything the certificate claims. -/
theorem claim : Cert.Claim :=
  ⟨Cert.Kernel.Gen.facts, Cert.KernelIdeal.Gen.facts, Cert.ReferenceIdeal.Gen.facts, Cert.Pre_finite.Gen.facts,
    frame_p, frame_pi, fun m ρ _ => frame_pi m ρ trivial, frame_ri, fun m ρ _ => frame_ri m ρ trivial, preserves, algebraic⟩

end Cert.Proof

end
